-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bounded_KernelIdeal [hPre_bounded_KernelIdeal : Cert.Pre_bounded_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_bounded_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bounded_ReferenceIdeal [hPre_bounded_ReferenceIdeal : Cert.Pre_bounded_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bounded_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_UnclippedIdeal (m : (ℓ : Loc Cert.UnclippedIdeal.nD Cert.UnclippedIdeal.τ Cert.UnclippedIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_bounded_KernelIdeal [hKernelIdeal : Cert.KernelIdeal.Facts] [hPre_bounded_KernelIdeal : Cert.Pre_bounded_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bounded_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_bounded_ReferenceIdeal [hReferenceIdeal : Cert.ReferenceIdeal.Facts] [hPre_bounded_ReferenceIdeal : Cert.Pre_bounded_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bounded_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_UnclippedIdeal [hUnclippedIdeal : Cert.UnclippedIdeal.Facts] : Prop :=
  ∀ (m : (ℓ : Loc Cert.UnclippedIdeal.nD Cert.UnclippedIdeal.τ Cert.UnclippedIdeal.sig) → Buf (Elt Ideal) ℓ) (g : Dev Cert.UnclippedIdeal.nD → PrngReg), Pre_UnclippedIdeal m →
    θ_run (Cert.UnclippedIdeal.defs (F := Ideal)) (onTc (τ := Cert.UnclippedIdeal.τ) (Cert.UnclippedIdeal.main (F := Ideal))) ⟨m, fun _ => 0, g⟩ (fun r => (∀ c : Dev Cert.UnclippedIdeal.nD,
      r.2.mem ((c.tc : Thread Cert.UnclippedIdeal.nD Cert.UnclippedIdeal.τ).loc Cert.UnclippedIdeal.main_arg0) = m ((c.tc : Thread Cert.UnclippedIdeal.nD Cert.UnclippedIdeal.τ).loc Cert.UnclippedIdeal.main_arg0)
      ∧ r.2.mem ((c.tc : Thread Cert.UnclippedIdeal.nD Cert.UnclippedIdeal.τ).loc Cert.UnclippedIdeal.main_arg1) = m ((c.tc : Thread Cert.UnclippedIdeal.nD Cert.UnclippedIdeal.τ).loc Cert.UnclippedIdeal.main_arg1))
      ∧ r.2.sem = fun _ => 0)

def preserves_Kernel_KernelIdeal : Prop :=
  True

def algebraic_KernelIdeal_ReferenceIdeal_pre_bounded_KernelIdeal [hKernelIdeal : Cert.KernelIdeal.Facts] [hReferenceIdeal : Cert.ReferenceIdeal.Facts] [hPre_bounded_KernelIdeal : Cert.Pre_bounded_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bounded_KernelIdeal m →
    (∀ c : Dev Cert.KernelIdeal.nD,
      m ((c.tc : Thread Cert.KernelIdeal.nD Cert.KernelIdeal.τ).loc Cert.KernelIdeal.main_arg0) = Layout.block ⟨2, ![8192, 512]⟩ ⟨2, ![8192, 8192]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 4096]⟩ ⟨2, ![8192, 4096]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_UnclippedIdeal [hKernelIdeal : Cert.KernelIdeal.Facts] [hUnclippedIdeal : Cert.UnclippedIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.UnclippedIdeal.nD Cert.UnclippedIdeal.τ Cert.UnclippedIdeal.sig) → Buf (Elt Ideal) ℓ) (g' : Dev Cert.UnclippedIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 512]⟩ ⟨2, ![8192, 8192]⟩ 1 16 c (m' (((0 : Dev Cert.UnclippedIdeal.nD).tc : Thread Cert.UnclippedIdeal.nD Cert.UnclippedIdeal.τ).loc Cert.UnclippedIdeal.main_arg0))
      ∧ m ((c.tc : Thread Cert.KernelIdeal.nD Cert.KernelIdeal.τ).loc Cert.KernelIdeal.main_arg1) = Layout.block ⟨2, ![512, 4096]⟩ ⟨2, ![8192, 4096]⟩ 0 16 c (m' (((0 : Dev Cert.UnclippedIdeal.nD).tc : Thread Cert.UnclippedIdeal.nD Cert.UnclippedIdeal.τ).loc Cert.UnclippedIdeal.main_arg1))) →
    ∃ (v0 : Buf (Elt Ideal) (((0 : Dev Cert.UnclippedIdeal.nD).tc : Thread Cert.UnclippedIdeal.nD Cert.UnclippedIdeal.τ).loc Cert.UnclippedIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.UnclippedIdeal.defs (F := Ideal)) (onTc (τ := Cert.UnclippedIdeal.τ) (Cert.UnclippedIdeal.main (F := Ideal))) ⟨m', fun _ => 0, g'⟩ (fun r =>
          r.2.mem (((0 : Dev Cert.UnclippedIdeal.nD).tc : Thread Cert.UnclippedIdeal.nD Cert.UnclippedIdeal.τ).loc Cert.UnclippedIdeal.main_v5) = v0
          ∧ r.2.mem (((0 : Dev Cert.UnclippedIdeal.nD).tc : Thread Cert.UnclippedIdeal.nD Cert.UnclippedIdeal.τ).loc Cert.UnclippedIdeal.main_arg0) = m' (((0 : Dev Cert.UnclippedIdeal.nD).tc : Thread Cert.UnclippedIdeal.nD Cert.UnclippedIdeal.τ).loc Cert.UnclippedIdeal.main_arg0)
          ∧ r.2.mem (((0 : Dev Cert.UnclippedIdeal.nD).tc : Thread Cert.UnclippedIdeal.nD Cert.UnclippedIdeal.τ).loc Cert.UnclippedIdeal.main_arg1) = m' (((0 : Dev Cert.UnclippedIdeal.nD).tc : Thread Cert.UnclippedIdeal.nD Cert.UnclippedIdeal.τ).loc Cert.UnclippedIdeal.main_arg1))

def Claim : Prop :=
  ∃ (hKernel : Cert.Kernel.Facts) (hKernelIdeal : Cert.KernelIdeal.Facts) (hReferenceIdeal : Cert.ReferenceIdeal.Facts) (hUnclippedIdeal : Cert.UnclippedIdeal.Facts) (hPre_bounded_KernelIdeal : Cert.Pre_bounded_KernelIdeal.Facts) (hPre_bounded_ReferenceIdeal : Cert.Pre_bounded_ReferenceIdeal.Facts),
    quiescent_Kernel (hKernel := hKernel)
    ∧ quiescent_KernelIdeal (hKernelIdeal := hKernelIdeal)
    ∧ quiescent_KernelIdeal_pre_bounded_KernelIdeal (hKernelIdeal := hKernelIdeal) (hPre_bounded_KernelIdeal := hPre_bounded_KernelIdeal)
    ∧ quiescent_ReferenceIdeal (hReferenceIdeal := hReferenceIdeal)
    ∧ quiescent_ReferenceIdeal_pre_bounded_ReferenceIdeal (hReferenceIdeal := hReferenceIdeal) (hPre_bounded_ReferenceIdeal := hPre_bounded_ReferenceIdeal)
    ∧ quiescent_UnclippedIdeal (hUnclippedIdeal := hUnclippedIdeal)
    ∧ preserves_Kernel_KernelIdeal
    ∧ algebraic_KernelIdeal_ReferenceIdeal_pre_bounded_KernelIdeal (hKernelIdeal := hKernelIdeal) (hReferenceIdeal := hReferenceIdeal) (hPre_bounded_KernelIdeal := hPre_bounded_KernelIdeal)
    ∧ algebraic_KernelIdeal_UnclippedIdeal (hKernelIdeal := hKernelIdeal) (hUnclippedIdeal := hUnclippedIdeal)
-- ==== Pre_bounded_KernelIdeal.lean ====
abbrev S8192x512 : Shape := ⟨2, ![8192, 512]⟩
abbrev S512x4096 : Shape := ⟨2, ![512, 4096]⟩
abbrev S8192x4096 : Shape := ⟨2, ![8192, 4096]⟩
abbrev S_ : Shape := ⟨0, ![]⟩

class Facts : Prop where
  bcast_S_S8192x4096 : S_.BroadcastsInDim S8192x4096 (![] : Fin 0 → Fin S8192x4096.rank)
  dot_S8192x512_S512x4096_S8192x4096_1_0_0_1_n_n_wf : DotDims.WF S8192x512 S512x4096 S8192x4096 [1] [0] [0] [1] [] []

variable [Facts]

def dot_S8192x512_S512x4096_S8192x4096_1_0_0_1_n_n : DotDims S8192x512 S512x4096 S8192x4096 where
  lhsContracting := [1]
  rhsContracting := [0]
  lhsNonContracting := [0]
  rhsNonContracting := [1]
  lhsBatch := []
  rhsBatch := []
  wf := dot_S8192x512_S512x4096_S8192x4096_1_0_0_1_n_n_wf
def fn {F : FTy → Type} [FloatOps F] (main_arg0 : FVec F S8192x512 .f32) (main_arg1 : FVec F S512x4096 .f32) : IVec S8192x4096 1 :=
  let main_v0 : FVec F S8192x4096 .f32 := (fun l r => Host.dotGeneral dot_S8192x512_S512x4096_S8192x4096_1_0_0_1_n_n none l r) main_arg0 main_arg1
  let main_v1 : FVec F S8192x4096 .f32 := Host.absf main_v0
  let main_cst : FVec F S_ .f32 := constant S_ .f32 0x40700000#32
  let main_v2 : FVec F S8192x4096 .f32 := broadcastInDim S8192x4096 ![] bcast_S_S8192x4096 main_cst
  let main_v3 : IVec S8192x4096 1 := cmpf .ole main_v1 main_v2
  main_v3
-- ==== Pre_bounded_ReferenceIdeal.lean ====
abbrev S8192x8192 : Shape := ⟨2, ![8192, 8192]⟩
abbrev S8192x4096 : Shape := ⟨2, ![8192, 4096]⟩
abbrev S_ : Shape := ⟨0, ![]⟩

class Facts : Prop where
  bcast_S_S8192x4096 : S_.BroadcastsInDim S8192x4096 (![] : Fin 0 → Fin S8192x4096.rank)
  dot_S8192x8192_S8192x4096_S8192x4096_1_0_0_1_n_n_wf : DotDims.WF S8192x8192 S8192x4096 S8192x4096 [1] [0] [0] [1] [] []

variable [Facts]

def dot_S8192x8192_S8192x4096_S8192x4096_1_0_0_1_n_n : DotDims S8192x8192 S8192x4096 S8192x4096 where
  lhsContracting := [1]
  rhsContracting := [0]
  lhsNonContracting := [0]
  rhsNonContracting := [1]
  lhsBatch := []
  rhsBatch := []
  wf := dot_S8192x8192_S8192x4096_S8192x4096_1_0_0_1_n_n_wf
def fn {F : FTy → Type} [FloatOps F] (main_arg0 : FVec F S8192x8192 .f32) (main_arg1 : FVec F S8192x4096 .f32) : IVec S8192x4096 1 :=
  let main_v0 : FVec F S8192x4096 .f32 := (fun l r => Host.dotGeneral dot_S8192x8192_S8192x4096_S8192x4096_1_0_0_1_n_n none l r) main_arg0 main_arg1
  let main_v1 : FVec F S8192x4096 .f32 := Host.absf main_v0
  let main_cst : FVec F S_ .f32 := constant S_ .f32 0x40700000#32
  let main_v2 : FVec F S8192x4096 .f32 := broadcastInDim S8192x4096 ![] bcast_S_S8192x4096 main_cst
  let main_v3 : IVec S8192x4096 1 := cmpf .ole main_v1 main_v2
  main_v3
-- ==== Kernel.lean ====
abbrev S8192x512 : Shape := ⟨2, ![8192, 512]⟩
abbrev S512x4096 : Shape := ⟨2, ![512, 4096]⟩
abbrev S8192x4096 : Shape := ⟨2, ![8192, 4096]⟩
abbrev S512x2048 : Shape := ⟨2, ![512, 2048]⟩
abbrev S2x512x2048 : Shape := ⟨3, ![2, 512, 2048]⟩
abbrev S2 : Shape := ⟨1, ![2]⟩
abbrev S_ : Shape := ⟨0, ![]⟩
abbrev S512x512 : Shape := ⟨2, ![512, 512]⟩
abbrev S1x512x2048 : Shape := ⟨3, ![1, 512, 2048]⟩
abbrev S1 : Shape := ⟨1, ![1]⟩

abbrev nBuf : Space → Nat
  | .hbm => 3
  | .vmem => 8
  | .smem => 0
  | _ => 0

abbrev bufTy : (tb : Table) → Fin (tcTables nBuf tb) → BufTy
  | .hbm, ⟨0, _⟩ => ⟨S8192x512, .f32⟩
  | .hbm, ⟨1, _⟩ => ⟨S512x4096, .f32⟩
  | .hbm, ⟨2, _⟩ => ⟨S8192x4096, .f32⟩
  | .local _ .vmem, ⟨0, _⟩ => ⟨S8192x512, .f32⟩
  | .local _ .vmem, ⟨1, _⟩ => ⟨S512x4096, .f32⟩
  | .local _ .vmem, ⟨2, _⟩ => ⟨S512x2048, .f32⟩
  | .local _ .vmem, ⟨3, _⟩ => ⟨S512x2048, .f32⟩
  | .local _ .vmem, ⟨4, _⟩ => ⟨S2x512x2048, .f32⟩
  | .local _ .vmem, ⟨5, _⟩ => ⟨S2x512x2048, .f32⟩
  | .local _ .vmem, ⟨6, _⟩ => ⟨S2x512x2048, .f32⟩
  | .local _ .vmem, ⟨7, _⟩ => ⟨S2x512x2048, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 5 → Bool
  | ⟨0, _⟩ => true
  | ⟨1, _⟩ => true
  | ⟨2, _⟩ => true
  | ⟨3, _⟩ => true
  | ⟨4, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 5 22 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_sem0_0 : DmaSem sig := 0
abbrev cc0_sem1_0 : DmaSem sig := 1
abbrev barrier0 : Sem sig := 4

abbrev nD : Nat := 16
abbrev τ : Topo := Topo.v7x

variable {F : FTy → Type} [FloatOps F]

abbrev grid0 : Pipeline.Grid := .none

def k0_dev1 (d0 : Dev nD) : Nat :=
  let c0_i32_16 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_15 : BitVec 32 := 1#32
  let v27 : BitVec 32 := Scalar.muli v14 c1_i32_15
  let v28 : BitVec 32 := Scalar.addi c0_i32_16 v27
  v28.toNat
def k0_dev2 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_18 : BitVec 32 := 1#32
  let v29 : BitVec 32 := Scalar.muli v25 c1_i32_18
  let v30 : BitVec 32 := Scalar.addi c0_i32_19 v29
  v30.toNat
def k0_dev3 (d0 : Dev nD) : Nat :=
  let c0_i32_22 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_21 : BitVec 32 := 1#32
  let v31 : BitVec 32 := Scalar.muli v14 c1_i32_21
  let v32 : BitVec 32 := Scalar.addi c0_i32_22 v31
  v32.toNat
def k0_dev4 (d0 : Dev nD) : Nat :=
  let c0_i32_25 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_24 : BitVec 32 := 1#32
  let v33 : BitVec 32 := Scalar.muli v25 c1_i32_24
  let v34 : BitVec 32 := Scalar.addi c0_i32_25 v33
  v34.toNat
def k0_dev5 (d0 : Dev nD) : Nat :=
  let c0_i32_28 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_27 : BitVec 32 := 1#32
  let v35 : BitVec 32 := Scalar.muli v14 c1_i32_27
  let v36 : BitVec 32 := Scalar.addi c0_i32_28 v35
  v36.toNat
def k0_dev6 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_30 : BitVec 32 := 1#32
  let v37 : BitVec 32 := Scalar.muli v25 c1_i32_30
  let v38 : BitVec 32 := Scalar.addi c0_i32_31 v37
  v38.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c512_i32 : BitVec 32 := 512#32
  let v39 : BitVec 32 := Scalar.muli v2 c512_i32
  let v40 : Index := Scalar.indexCast v39
  let c0 : Index := 0#32
  ![v40.toNat, 0]
def k0_dev7 (d0 : Dev nD) : Nat :=
  let c0_i32_50 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_49 : BitVec 32 := 1#32
  let v59 : BitVec 32 := Scalar.muli v25 c1_i32_49
  let v60 : BitVec 32 := Scalar.addi c0_i32_50 v59
  v60.toNat
def k0_dev8 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_61 : BitVec 32 := 1#32
  let v69 : BitVec 32 := Scalar.muli v14 c1_i32_61
  let v70 : BitVec 32 := Scalar.addi c0_i32_62 v69
  v70.toNat
def k0_off2 (d0 : Dev nD) (c0_i32_67 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v79 : BitVec 32 := Scalar.subi v2 c0_i32_67
  let c1_i32_68 : BitVec 32 := 1#32
  let v80 : BitVec 32 := Scalar.subi v79 c1_i32_68
  let c16_i32_69 : BitVec 32 := 16#32
  let c0_i32_70 : BitVec 32 := 0#32
  let v81 : BitVec 1 := Scalar.cmpi .eq c16_i32_69 c0_i32_70
  let c1_i32_71 : BitVec 32 := 1#32
  let v82 : BitVec 32 := Scalar.select v81 c1_i32_71 c16_i32_69
  let v83 : BitVec 32 := Scalar.remsi v80 v82
  let c0_i32_73 : BitVec 32 := 0#32
  let v85 : BitVec 1 := Scalar.cmpi .slt v83 c0_i32_73
  let c0_i32_74 : BitVec 32 := 0#32
  let v86 : BitVec 1 := Scalar.cmpi .slt v82 c0_i32_74
  let v87 : BitVec 1 := Scalar.xori v85 v86
  let c0_i32_72 : BitVec 32 := 0#32
  let v84 : BitVec 1 := Scalar.cmpi .ne v83 c0_i32_72
  let v88 : BitVec 1 := Scalar.andi v87 v84
  let v89 : BitVec 32 := Scalar.addi v83 v82
  let v90 : BitVec 32 := Scalar.select v88 v89 v83
  let c512_i32_83 : BitVec 32 := 512#32
  let v103 : BitVec 32 := Scalar.muli v90 c512_i32_83
  let v104 : Index := Scalar.indexCast v103
  let c0_84 : Index := 0#32
  ![v104.toNat, 0]
def k0_off3 (d0 : Dev nD) (c0_i32_75 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v91 : BitVec 32 := Scalar.addi v2 c0_i32_75
  let c1_i32_76 : BitVec 32 := 1#32
  let v92 : BitVec 32 := Scalar.addi v91 c1_i32_76
  let c16_i32_77 : BitVec 32 := 16#32
  let c0_i32_78 : BitVec 32 := 0#32
  let v93 : BitVec 1 := Scalar.cmpi .eq c16_i32_77 c0_i32_78
  let c1_i32_79 : BitVec 32 := 1#32
  let v94 : BitVec 32 := Scalar.select v93 c1_i32_79 c16_i32_77
  let v95 : BitVec 32 := Scalar.remsi v92 v94
  let c0_i32_81 : BitVec 32 := 0#32
  let v97 : BitVec 1 := Scalar.cmpi .slt v95 c0_i32_81
  let c0_i32_82 : BitVec 32 := 0#32
  let v98 : BitVec 1 := Scalar.cmpi .slt v94 c0_i32_82
  let v99 : BitVec 1 := Scalar.xori v97 v98
  let c0_i32_80 : BitVec 32 := 0#32
  let v96 : BitVec 1 := Scalar.cmpi .ne v95 c0_i32_80
  let v100 : BitVec 1 := Scalar.andi v99 v96
  let v101 : BitVec 32 := Scalar.addi v95 v94
  let v102 : BitVec 32 := Scalar.select v100 v101 v95
  let c512_i32_90 : BitVec 32 := 512#32
  let v113 : BitVec 32 := Scalar.muli v102 c512_i32_90
  let v114 : Index := Scalar.indexCast v113
  let c0_91 : Index := 0#32
  ![v114.toNat, 0]
def k0_dev9 (d0 : Dev nD) : Nat :=
  let c0_i32_118 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_117 : BitVec 32 := 1#32
  let v137 : BitVec 32 := Scalar.muli v14 c1_i32_117
  let v138 : BitVec 32 := Scalar.addi c0_i32_118 v137
  v138.toNat
def k0_dev10 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_133 : BitVec 32 := 1#32
  let v146 : BitVec 32 := Scalar.muli v25 c1_i32_133
  let v147 : BitVec 32 := Scalar.addi c0_i32_134 v146
  v147.toNat
def k0_dev11 (d0 : Dev nD) : Nat :=
  let c0_i32_160 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_159 : BitVec 32 := 1#32
  let v170 : BitVec 32 := Scalar.muli v25 c1_i32_159
  let v171 : BitVec 32 := Scalar.addi c0_i32_160 v170
  v171.toNat
def k0_dev12 (d0 : Dev nD) : Nat :=
  let c0_i32_176 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_175 : BitVec 32 := 1#32
  let v179 : BitVec 32 := Scalar.muli v14 c1_i32_175
  let v180 : BitVec 32 := Scalar.addi c0_i32_176 v179
  v180.toNat
def k0_dev13 (d0 : Dev nD) : Nat :=
  let c0_i32_232 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_231 : BitVec 32 := 1#32
  let v247 : BitVec 32 := Scalar.muli v14 c1_i32_231
  let v248 : BitVec 32 := Scalar.addi c0_i32_232 v247
  v248.toNat
def k0_dev14 (d0 : Dev nD) : Nat :=
  let c0_i32_248 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_247 : BitVec 32 := 1#32
  let v256 : BitVec 32 := Scalar.muli v25 c1_i32_247
  let v257 : BitVec 32 := Scalar.addi c0_i32_248 v256
  v257.toNat
def k0_dev15 (d0 : Dev nD) : Nat :=
  let c0_i32_274 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_273 : BitVec 32 := 1#32
  let v280 : BitVec 32 := Scalar.muli v25 c1_i32_273
  let v281 : BitVec 32 := Scalar.addi c0_i32_274 v280
  v281.toNat
def k0_dev16 (d0 : Dev nD) : Nat :=
  let c0_i32_290 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_289 : BitVec 32 := 1#32
  let v289 : BitVec 32 := Scalar.muli v14 c1_i32_289
  let v290 : BitVec 32 := Scalar.addi c0_i32_290 v289
  v290.toNat
def k0_dev17 (d0 : Dev nD) : Nat :=
  let c0_i32_346 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_345 : BitVec 32 := 1#32
  let v357 : BitVec 32 := Scalar.muli v14 c1_i32_345
  let v358 : BitVec 32 := Scalar.addi c0_i32_346 v357
  v358.toNat
def k0_dev18 (d0 : Dev nD) : Nat :=
  let c0_i32_362 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_361 : BitVec 32 := 1#32
  let v366 : BitVec 32 := Scalar.muli v25 c1_i32_361
  let v367 : BitVec 32 := Scalar.addi c0_i32_362 v366
  v367.toNat
def k0_dev19 (d0 : Dev nD) : Nat :=
  let c0_i32_388 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_387 : BitVec 32 := 1#32
  let v390 : BitVec 32 := Scalar.muli v25 c1_i32_387
  let v391 : BitVec 32 := Scalar.addi c0_i32_388 v390
  v391.toNat
def k0_dev20 (d0 : Dev nD) : Nat :=
  let c0_i32_404 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_403 : BitVec 32 := 1#32
  let v399 : BitVec 32 := Scalar.muli v14 c1_i32_403
  let v400 : BitVec 32 := Scalar.addi c0_i32_404 v399
  v400.toNat
def k0_dev21 (d0 : Dev nD) : Nat :=
  let c0_i32_459 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_458 : BitVec 32 := 1#32
  let v467 : BitVec 32 := Scalar.muli v14 c1_i32_458
  let v468 : BitVec 32 := Scalar.addi c0_i32_459 v467
  v468.toNat
def k0_dev22 (d0 : Dev nD) : Nat :=
  let c0_i32_475 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_474 : BitVec 32 := 1#32
  let v476 : BitVec 32 := Scalar.muli v25 c1_i32_474
  let v477 : BitVec 32 := Scalar.addi c0_i32_475 v476
  v477.toNat
def k0_dev23 (d0 : Dev nD) : Nat :=
  let c0_i32_501 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_500 : BitVec 32 := 1#32
  let v500 : BitVec 32 := Scalar.muli v25 c1_i32_500
  let v501 : BitVec 32 := Scalar.addi c0_i32_501 v500
  v501.toNat
def k0_dev24 (d0 : Dev nD) : Nat :=
  let c0_i32_517 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_516 : BitVec 32 := 1#32
  let v509 : BitVec 32 := Scalar.muli v14 c1_i32_516
  let v510 : BitVec 32 := Scalar.addi c0_i32_517 v509
  v510.toNat
def k0_dev25 (d0 : Dev nD) : Nat :=
  let c0_i32_572 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_571 : BitVec 32 := 1#32
  let v577 : BitVec 32 := Scalar.muli v14 c1_i32_571
  let v578 : BitVec 32 := Scalar.addi c0_i32_572 v577
  v578.toNat
def k0_dev26 (d0 : Dev nD) : Nat :=
  let c0_i32_588 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_587 : BitVec 32 := 1#32
  let v586 : BitVec 32 := Scalar.muli v25 c1_i32_587
  let v587 : BitVec 32 := Scalar.addi c0_i32_588 v586
  v587.toNat
def k0_dev27 (d0 : Dev nD) : Nat :=
  let c0_i32_614 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_613 : BitVec 32 := 1#32
  let v610 : BitVec 32 := Scalar.muli v25 c1_i32_613
  let v611 : BitVec 32 := Scalar.addi c0_i32_614 v610
  v611.toNat
def k0_dev28 (d0 : Dev nD) : Nat :=
  let c0_i32_630 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_629 : BitVec 32 := 1#32
  let v619 : BitVec 32 := Scalar.muli v14 c1_i32_629
  let v620 : BitVec 32 := Scalar.addi c0_i32_630 v619
  v620.toNat
def k0_dev29 (d0 : Dev nD) : Nat :=
  let c0_i32_685 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_684 : BitVec 32 := 1#32
  let v687 : BitVec 32 := Scalar.muli v14 c1_i32_684
  let v688 : BitVec 32 := Scalar.addi c0_i32_685 v687
  v688.toNat
def k0_dev30 (d0 : Dev nD) : Nat :=
  let c0_i32_701 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_700 : BitVec 32 := 1#32
  let v696 : BitVec 32 := Scalar.muli v25 c1_i32_700
  let v697 : BitVec 32 := Scalar.addi c0_i32_701 v696
  v697.toNat
def k0_dev31 (d0 : Dev nD) : Nat :=
  let c0_i32_727 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_726 : BitVec 32 := 1#32
  let v720 : BitVec 32 := Scalar.muli v25 c1_i32_726
  let v721 : BitVec 32 := Scalar.addi c0_i32_727 v720
  v721.toNat
def k0_dev32 (d0 : Dev nD) : Nat :=
  let c0_i32_743 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_742 : BitVec 32 := 1#32
  let v729 : BitVec 32 := Scalar.muli v14 c1_i32_742
  let v730 : BitVec 32 := Scalar.addi c0_i32_743 v729
  v730.toNat
def k0_dev33 (d0 : Dev nD) : Nat :=
  let c0_i32_798 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_797 : BitVec 32 := 1#32
  let v797 : BitVec 32 := Scalar.muli v14 c1_i32_797
  let v798 : BitVec 32 := Scalar.addi c0_i32_798 v797
  v798.toNat
def k0_dev34 (d0 : Dev nD) : Nat :=
  let c0_i32_814 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_813 : BitVec 32 := 1#32
  let v806 : BitVec 32 := Scalar.muli v25 c1_i32_813
  let v807 : BitVec 32 := Scalar.addi c0_i32_814 v806
  v807.toNat
def k0_dev35 (d0 : Dev nD) : Nat :=
  let c0_i32_840 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_839 : BitVec 32 := 1#32
  let v830 : BitVec 32 := Scalar.muli v25 c1_i32_839
  let v831 : BitVec 32 := Scalar.addi c0_i32_840 v830
  v831.toNat
def k0_dev36 (d0 : Dev nD) : Nat :=
  let c0_i32_856 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_855 : BitVec 32 := 1#32
  let v839 : BitVec 32 := Scalar.muli v14 c1_i32_855
  let v840 : BitVec 32 := Scalar.addi c0_i32_856 v839
  v840.toNat
def k0_dev37 (d0 : Dev nD) : Nat :=
  let c0_i32_911 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_910 : BitVec 32 := 1#32
  let v907 : BitVec 32 := Scalar.muli v14 c1_i32_910
  let v908 : BitVec 32 := Scalar.addi c0_i32_911 v907
  v908.toNat
def k0_dev38 (d0 : Dev nD) : Nat :=
  let c0_i32_927 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_926 : BitVec 32 := 1#32
  let v916 : BitVec 32 := Scalar.muli v25 c1_i32_926
  let v917 : BitVec 32 := Scalar.addi c0_i32_927 v916
  v917.toNat
def k0_dev39 (d0 : Dev nD) : Nat :=
  let c0_i32_953 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_952 : BitVec 32 := 1#32
  let v940 : BitVec 32 := Scalar.muli v25 c1_i32_952
  let v941 : BitVec 32 := Scalar.addi c0_i32_953 v940
  v941.toNat
def k0_dev40 (d0 : Dev nD) : Nat :=
  let c0_i32_969 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_968 : BitVec 32 := 1#32
  let v949 : BitVec 32 := Scalar.muli v14 c1_i32_968
  let v950 : BitVec 32 := Scalar.addi c0_i32_969 v949
  v950.toNat
def k0_dev41 (d0 : Dev nD) : Nat :=
  let c0_i32_1024 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1023 : BitVec 32 := 1#32
  let v1017 : BitVec 32 := Scalar.muli v14 c1_i32_1023
  let v1018 : BitVec 32 := Scalar.addi c0_i32_1024 v1017
  v1018.toNat
def k0_dev42 (d0 : Dev nD) : Nat :=
  let c0_i32_1040 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1039 : BitVec 32 := 1#32
  let v1026 : BitVec 32 := Scalar.muli v25 c1_i32_1039
  let v1027 : BitVec 32 := Scalar.addi c0_i32_1040 v1026
  v1027.toNat
def k0_dev43 (d0 : Dev nD) : Nat :=
  let c0_i32_1066 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1065 : BitVec 32 := 1#32
  let v1050 : BitVec 32 := Scalar.muli v25 c1_i32_1065
  let v1051 : BitVec 32 := Scalar.addi c0_i32_1066 v1050
  v1051.toNat
def k0_dev44 (d0 : Dev nD) : Nat :=
  let c0_i32_1082 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1081 : BitVec 32 := 1#32
  let v1059 : BitVec 32 := Scalar.muli v14 c1_i32_1081
  let v1060 : BitVec 32 := Scalar.addi c0_i32_1082 v1059
  v1060.toNat
def k0_dev45 (d0 : Dev nD) : Nat :=
  let c0_i32_1137 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1136 : BitVec 32 := 1#32
  let v1127 : BitVec 32 := Scalar.muli v14 c1_i32_1136
  let v1128 : BitVec 32 := Scalar.addi c0_i32_1137 v1127
  v1128.toNat
def k0_dev46 (d0 : Dev nD) : Nat :=
  let c0_i32_1153 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1152 : BitVec 32 := 1#32
  let v1136 : BitVec 32 := Scalar.muli v25 c1_i32_1152
  let v1137 : BitVec 32 := Scalar.addi c0_i32_1153 v1136
  v1137.toNat
def k0_dev47 (d0 : Dev nD) : Nat :=
  let c0_i32_1179 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1178 : BitVec 32 := 1#32
  let v1160 : BitVec 32 := Scalar.muli v25 c1_i32_1178
  let v1161 : BitVec 32 := Scalar.addi c0_i32_1179 v1160
  v1161.toNat
def k0_dev48 (d0 : Dev nD) : Nat :=
  let c0_i32_1195 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1194 : BitVec 32 := 1#32
  let v1169 : BitVec 32 := Scalar.muli v14 c1_i32_1194
  let v1170 : BitVec 32 := Scalar.addi c0_i32_1195 v1169
  v1170.toNat
def k0_dev49 (d0 : Dev nD) : Nat :=
  let c0_i32_1250 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1249 : BitVec 32 := 1#32
  let v1237 : BitVec 32 := Scalar.muli v14 c1_i32_1249
  let v1238 : BitVec 32 := Scalar.addi c0_i32_1250 v1237
  v1238.toNat
def k0_dev50 (d0 : Dev nD) : Nat :=
  let c0_i32_1266 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1265 : BitVec 32 := 1#32
  let v1246 : BitVec 32 := Scalar.muli v25 c1_i32_1265
  let v1247 : BitVec 32 := Scalar.addi c0_i32_1266 v1246
  v1247.toNat
def k0_dev51 (d0 : Dev nD) : Nat :=
  let c0_i32_1292 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1291 : BitVec 32 := 1#32
  let v1270 : BitVec 32 := Scalar.muli v25 c1_i32_1291
  let v1271 : BitVec 32 := Scalar.addi c0_i32_1292 v1270
  v1271.toNat
def k0_dev52 (d0 : Dev nD) : Nat :=
  let c0_i32_1308 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1307 : BitVec 32 := 1#32
  let v1279 : BitVec 32 := Scalar.muli v14 c1_i32_1307
  let v1280 : BitVec 32 := Scalar.addi c0_i32_1308 v1279
  v1280.toNat
def k0_dev53 (d0 : Dev nD) : Nat :=
  let c0_i32_1363 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1362 : BitVec 32 := 1#32
  let v1347 : BitVec 32 := Scalar.muli v14 c1_i32_1362
  let v1348 : BitVec 32 := Scalar.addi c0_i32_1363 v1347
  v1348.toNat
def k0_dev54 (d0 : Dev nD) : Nat :=
  let c0_i32_1379 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1378 : BitVec 32 := 1#32
  let v1356 : BitVec 32 := Scalar.muli v25 c1_i32_1378
  let v1357 : BitVec 32 := Scalar.addi c0_i32_1379 v1356
  v1357.toNat
def k0_dev55 (d0 : Dev nD) : Nat :=
  let c0_i32_1405 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1404 : BitVec 32 := 1#32
  let v1380 : BitVec 32 := Scalar.muli v25 c1_i32_1404
  let v1381 : BitVec 32 := Scalar.addi c0_i32_1405 v1380
  v1381.toNat
def k0_dev56 (d0 : Dev nD) : Nat :=
  let c0_i32_1421 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1420 : BitVec 32 := 1#32
  let v1389 : BitVec 32 := Scalar.muli v14 c1_i32_1420
  let v1390 : BitVec 32 := Scalar.addi c0_i32_1421 v1389
  v1390.toNat
def k0_dev57 (d0 : Dev nD) : Nat :=
  let c0_i32_1476 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1475 : BitVec 32 := 1#32
  let v1457 : BitVec 32 := Scalar.muli v14 c1_i32_1475
  let v1458 : BitVec 32 := Scalar.addi c0_i32_1476 v1457
  v1458.toNat
def k0_dev58 (d0 : Dev nD) : Nat :=
  let c0_i32_1492 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1491 : BitVec 32 := 1#32
  let v1466 : BitVec 32 := Scalar.muli v25 c1_i32_1491
  let v1467 : BitVec 32 := Scalar.addi c0_i32_1492 v1466
  v1467.toNat
def k0_dev59 (d0 : Dev nD) : Nat :=
  let c0_i32_1518 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1517 : BitVec 32 := 1#32
  let v1490 : BitVec 32 := Scalar.muli v25 c1_i32_1517
  let v1491 : BitVec 32 := Scalar.addi c0_i32_1518 v1490
  v1491.toNat
def k0_dev60 (d0 : Dev nD) : Nat :=
  let c0_i32_1534 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1533 : BitVec 32 := 1#32
  let v1499 : BitVec 32 := Scalar.muli v14 c1_i32_1533
  let v1500 : BitVec 32 := Scalar.addi c0_i32_1534 v1499
  v1500.toNat
def k0_dev61 (d0 : Dev nD) : Nat :=
  let c0_i32_1589 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1588 : BitVec 32 := 1#32
  let v1567 : BitVec 32 := Scalar.muli v14 c1_i32_1588
  let v1568 : BitVec 32 := Scalar.addi c0_i32_1589 v1567
  v1568.toNat
def k0_dev62 (d0 : Dev nD) : Nat :=
  let c0_i32_1605 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1604 : BitVec 32 := 1#32
  let v1576 : BitVec 32 := Scalar.muli v25 c1_i32_1604
  let v1577 : BitVec 32 := Scalar.addi c0_i32_1605 v1576
  v1577.toNat
def k0_dev63 (d0 : Dev nD) : Nat :=
  let c0_i32_1631 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1630 : BitVec 32 := 1#32
  let v1600 : BitVec 32 := Scalar.muli v25 c1_i32_1630
  let v1601 : BitVec 32 := Scalar.addi c0_i32_1631 v1600
  v1601.toNat
def k0_dev64 (d0 : Dev nD) : Nat :=
  let c0_i32_1647 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1646 : BitVec 32 := 1#32
  let v1609 : BitVec 32 := Scalar.muli v14 c1_i32_1646
  let v1610 : BitVec 32 := Scalar.addi c0_i32_1647 v1609
  v1610.toNat
def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1735 : BitVec 32 := 1#32
  let v1705 : BitVec 32 := Scalar.addi v2 c1_i32_1735
  let c16_i32_1736 : BitVec 32 := 16#32
  let c0_i32_1737 : BitVec 32 := 0#32
  let v1706 : BitVec 1 := Scalar.cmpi .eq c16_i32_1736 c0_i32_1737
  let c1_i32_1738 : BitVec 32 := 1#32
  let v1707 : BitVec 32 := Scalar.select v1706 c1_i32_1738 c16_i32_1736
  let v1708 : BitVec 32 := Scalar.remsi v1705 v1707
  let c0_i32_1740 : BitVec 32 := 0#32
  let v1710 : BitVec 1 := Scalar.cmpi .slt v1708 c0_i32_1740
  let c0_i32_1741 : BitVec 32 := 0#32
  let v1711 : BitVec 1 := Scalar.cmpi .slt v1707 c0_i32_1741
  let v1712 : BitVec 1 := Scalar.xori v1710 v1711
  let c0_i32_1739 : BitVec 32 := 0#32
  let v1709 : BitVec 1 := Scalar.cmpi .ne v1708 c0_i32_1739
  let v1713 : BitVec 1 := Scalar.andi v1712 v1709
  let v1714 : BitVec 32 := Scalar.addi v1708 v1707
  let v1715 : BitVec 32 := Scalar.select v1713 v1714 v1708
  let c512_i32_1768 : BitVec 32 := 512#32
  let v1754 : BitVec 32 := Scalar.muli v1715 c512_i32_1768
  let c0_i32_1772 : BitVec 32 := 0#32
  ![v1754.toNat, 0]
def k0_off5 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_1742 : BitVec 32 := 16#32
  let v1716 : BitVec 32 := Scalar.addi v2 c16_i32_1742
  let c1_i32_1743 : BitVec 32 := 1#32
  let v1717 : BitVec 32 := Scalar.subi v1716 c1_i32_1743
  let c16_i32_1744 : BitVec 32 := 16#32
  let c0_i32_1745 : BitVec 32 := 0#32
  let v1718 : BitVec 1 := Scalar.cmpi .eq c16_i32_1744 c0_i32_1745
  let c1_i32_1746 : BitVec 32 := 1#32
  let v1719 : BitVec 32 := Scalar.select v1718 c1_i32_1746 c16_i32_1744
  let v1720 : BitVec 32 := Scalar.remsi v1717 v1719
  let c0_i32_1748 : BitVec 32 := 0#32
  let v1722 : BitVec 1 := Scalar.cmpi .slt v1720 c0_i32_1748
  let c0_i32_1749 : BitVec 32 := 0#32
  let v1723 : BitVec 1 := Scalar.cmpi .slt v1719 c0_i32_1749
  let v1724 : BitVec 1 := Scalar.xori v1722 v1723
  let c0_i32_1747 : BitVec 32 := 0#32
  let v1721 : BitVec 1 := Scalar.cmpi .ne v1720 c0_i32_1747
  let v1725 : BitVec 1 := Scalar.andi v1724 v1721
  let v1726 : BitVec 32 := Scalar.addi v1720 v1719
  let v1727 : BitVec 32 := Scalar.select v1725 v1726 v1720
  let c512_i32_1769 : BitVec 32 := 512#32
  let v1755 : BitVec 32 := Scalar.muli v1727 c512_i32_1769
  let c2048_i32 : BitVec 32 := 2048#32
  ![v1755.toNat, 2048]
def k0_dev65 (d0 : Dev nD) : Nat :=
  let c0_i32_1800 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1799 : BitVec 32 := 1#32
  let v1788 : BitVec 32 := Scalar.muli v25 c1_i32_1799
  let v1789 : BitVec 32 := Scalar.addi c0_i32_1800 v1788
  v1789.toNat
def k0_dev66 (d0 : Dev nD) : Nat :=
  let c0_i32_1812 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1811 : BitVec 32 := 1#32
  let v1798 : BitVec 32 := Scalar.muli v14 c1_i32_1811
  let v1799 : BitVec 32 := Scalar.addi c0_i32_1812 v1798
  v1799.toNat
def k0_off6 (d0 : Dev nD) (c0_i32_1779 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1766 : BitVec 32 := Scalar.subi v2 c0_i32_1779
  let c16_i32_1780 : BitVec 32 := 16#32
  let c0_i32_1781 : BitVec 32 := 0#32
  let v1767 : BitVec 1 := Scalar.cmpi .eq c16_i32_1780 c0_i32_1781
  let c1_i32_1782 : BitVec 32 := 1#32
  let v1768 : BitVec 32 := Scalar.select v1767 c1_i32_1782 c16_i32_1780
  let v1769 : BitVec 32 := Scalar.remsi v1766 v1768
  let c0_i32_1784 : BitVec 32 := 0#32
  let v1771 : BitVec 1 := Scalar.cmpi .slt v1769 c0_i32_1784
  let c0_i32_1785 : BitVec 32 := 0#32
  let v1772 : BitVec 1 := Scalar.cmpi .slt v1768 c0_i32_1785
  let v1773 : BitVec 1 := Scalar.xori v1771 v1772
  let c0_i32_1783 : BitVec 32 := 0#32
  let v1770 : BitVec 1 := Scalar.cmpi .ne v1769 c0_i32_1783
  let v1774 : BitVec 1 := Scalar.andi v1773 v1770
  let v1775 : BitVec 32 := Scalar.addi v1769 v1768
  let v1776 : BitVec 32 := Scalar.select v1774 v1775 v1769
  let c512_i32_1827 : BitVec 32 := 512#32
  let v1816 : BitVec 32 := Scalar.muli v1776 c512_i32_1827
  let c0_i32_1830 : BitVec 32 := 0#32
  ![v1816.toNat, 0]
def k0_off7 (d0 : Dev nD) (c0_i32_1786 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1777 : BitVec 32 := Scalar.addi v2 c0_i32_1786
  let c16_i32_1787 : BitVec 32 := 16#32
  let c0_i32_1788 : BitVec 32 := 0#32
  let v1778 : BitVec 1 := Scalar.cmpi .eq c16_i32_1787 c0_i32_1788
  let c1_i32_1789 : BitVec 32 := 1#32
  let v1779 : BitVec 32 := Scalar.select v1778 c1_i32_1789 c16_i32_1787
  let v1780 : BitVec 32 := Scalar.remsi v1777 v1779
  let c0_i32_1791 : BitVec 32 := 0#32
  let v1782 : BitVec 1 := Scalar.cmpi .slt v1780 c0_i32_1791
  let c0_i32_1792 : BitVec 32 := 0#32
  let v1783 : BitVec 1 := Scalar.cmpi .slt v1779 c0_i32_1792
  let v1784 : BitVec 1 := Scalar.xori v1782 v1783
  let c0_i32_1790 : BitVec 32 := 0#32
  let v1781 : BitVec 1 := Scalar.cmpi .ne v1780 c0_i32_1790
  let v1785 : BitVec 1 := Scalar.andi v1784 v1781
  let v1786 : BitVec 32 := Scalar.addi v1780 v1779
  let v1787 : BitVec 32 := Scalar.select v1785 v1786 v1780
  let c512_i32_1843 : BitVec 32 := 512#32
  let v1830 : BitVec 32 := Scalar.muli v1787 c512_i32_1843
  let c2048_i32_1846 : BitVec 32 := 2048#32
  ![v1830.toNat, 2048]
def k0_dev67 (d0 : Dev nD) : Nat :=
  let c0_i32_1879 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1878 : BitVec 32 := 1#32
  let v1858 : BitVec 32 := Scalar.muli v14 c1_i32_1878
  let v1859 : BitVec 32 := Scalar.addi c0_i32_1879 v1858
  v1859.toNat
def k0_dev68 (d0 : Dev nD) : Nat :=
  let c0_i32_1882 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1881 : BitVec 32 := 1#32
  let v1860 : BitVec 32 := Scalar.muli v25 c1_i32_1881
  let v1861 : BitVec 32 := Scalar.addi c0_i32_1882 v1860
  v1861.toNat
def k0_dev69 (d0 : Dev nD) : Nat :=
  let c0_i32_1904 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1903 : BitVec 32 := 1#32
  let v1884 : BitVec 32 := Scalar.muli v25 c1_i32_1903
  let v1885 : BitVec 32 := Scalar.addi c0_i32_1904 v1884
  v1885.toNat
def k0_dev70 (d0 : Dev nD) : Nat :=
  let c0_i32_1916 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1915 : BitVec 32 := 1#32
  let v1894 : BitVec 32 := Scalar.muli v14 c1_i32_1915
  let v1895 : BitVec 32 := Scalar.addi c0_i32_1916 v1894
  v1895.toNat
def k0_dev71 (d0 : Dev nD) : Nat :=
  let c0_i32_1983 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1982 : BitVec 32 := 1#32
  let v1954 : BitVec 32 := Scalar.muli v14 c1_i32_1982
  let v1955 : BitVec 32 := Scalar.addi c0_i32_1983 v1954
  v1955.toNat
def k0_dev72 (d0 : Dev nD) : Nat :=
  let c0_i32_1986 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1985 : BitVec 32 := 1#32
  let v1956 : BitVec 32 := Scalar.muli v25 c1_i32_1985
  let v1957 : BitVec 32 := Scalar.addi c0_i32_1986 v1956
  v1957.toNat
def k0_dev73 (d0 : Dev nD) : Nat :=
  let c0_i32_2008 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2007 : BitVec 32 := 1#32
  let v1980 : BitVec 32 := Scalar.muli v25 c1_i32_2007
  let v1981 : BitVec 32 := Scalar.addi c0_i32_2008 v1980
  v1981.toNat
def k0_dev74 (d0 : Dev nD) : Nat :=
  let c0_i32_2020 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2019 : BitVec 32 := 1#32
  let v1990 : BitVec 32 := Scalar.muli v14 c1_i32_2019
  let v1991 : BitVec 32 := Scalar.addi c0_i32_2020 v1990
  v1991.toNat
def k0_dev75 (d0 : Dev nD) : Nat :=
  let c0_i32_2087 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2086 : BitVec 32 := 1#32
  let v2050 : BitVec 32 := Scalar.muli v14 c1_i32_2086
  let v2051 : BitVec 32 := Scalar.addi c0_i32_2087 v2050
  v2051.toNat
def k0_dev76 (d0 : Dev nD) : Nat :=
  let c0_i32_2090 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2089 : BitVec 32 := 1#32
  let v2052 : BitVec 32 := Scalar.muli v25 c1_i32_2089
  let v2053 : BitVec 32 := Scalar.addi c0_i32_2090 v2052
  v2053.toNat
def k0_dev77 (d0 : Dev nD) : Nat :=
  let c0_i32_2112 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2111 : BitVec 32 := 1#32
  let v2076 : BitVec 32 := Scalar.muli v25 c1_i32_2111
  let v2077 : BitVec 32 := Scalar.addi c0_i32_2112 v2076
  v2077.toNat
def k0_dev78 (d0 : Dev nD) : Nat :=
  let c0_i32_2124 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2123 : BitVec 32 := 1#32
  let v2086 : BitVec 32 := Scalar.muli v14 c1_i32_2123
  let v2087 : BitVec 32 := Scalar.addi c0_i32_2124 v2086
  v2087.toNat
def k0_dev79 (d0 : Dev nD) : Nat :=
  let c0_i32_2191 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2190 : BitVec 32 := 1#32
  let v2146 : BitVec 32 := Scalar.muli v14 c1_i32_2190
  let v2147 : BitVec 32 := Scalar.addi c0_i32_2191 v2146
  v2147.toNat
def k0_dev80 (d0 : Dev nD) : Nat :=
  let c0_i32_2194 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2193 : BitVec 32 := 1#32
  let v2148 : BitVec 32 := Scalar.muli v25 c1_i32_2193
  let v2149 : BitVec 32 := Scalar.addi c0_i32_2194 v2148
  v2149.toNat
def k0_dev81 (d0 : Dev nD) : Nat :=
  let c0_i32_2216 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2215 : BitVec 32 := 1#32
  let v2172 : BitVec 32 := Scalar.muli v25 c1_i32_2215
  let v2173 : BitVec 32 := Scalar.addi c0_i32_2216 v2172
  v2173.toNat
def k0_dev82 (d0 : Dev nD) : Nat :=
  let c0_i32_2228 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2227 : BitVec 32 := 1#32
  let v2182 : BitVec 32 := Scalar.muli v14 c1_i32_2227
  let v2183 : BitVec 32 := Scalar.addi c0_i32_2228 v2182
  v2183.toNat
def k0_dev83 (d0 : Dev nD) : Nat :=
  let c0_i32_2295 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2294 : BitVec 32 := 1#32
  let v2242 : BitVec 32 := Scalar.muli v14 c1_i32_2294
  let v2243 : BitVec 32 := Scalar.addi c0_i32_2295 v2242
  v2243.toNat
def k0_dev84 (d0 : Dev nD) : Nat :=
  let c0_i32_2298 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2297 : BitVec 32 := 1#32
  let v2244 : BitVec 32 := Scalar.muli v25 c1_i32_2297
  let v2245 : BitVec 32 := Scalar.addi c0_i32_2298 v2244
  v2245.toNat
def k0_dev85 (d0 : Dev nD) : Nat :=
  let c0_i32_2320 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2319 : BitVec 32 := 1#32
  let v2268 : BitVec 32 := Scalar.muli v25 c1_i32_2319
  let v2269 : BitVec 32 := Scalar.addi c0_i32_2320 v2268
  v2269.toNat
def k0_dev86 (d0 : Dev nD) : Nat :=
  let c0_i32_2332 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2331 : BitVec 32 := 1#32
  let v2278 : BitVec 32 := Scalar.muli v14 c1_i32_2331
  let v2279 : BitVec 32 := Scalar.addi c0_i32_2332 v2278
  v2279.toNat
def k0_dev87 (d0 : Dev nD) : Nat :=
  let c0_i32_2399 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2398 : BitVec 32 := 1#32
  let v2338 : BitVec 32 := Scalar.muli v14 c1_i32_2398
  let v2339 : BitVec 32 := Scalar.addi c0_i32_2399 v2338
  v2339.toNat
def k0_dev88 (d0 : Dev nD) : Nat :=
  let c0_i32_2402 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2401 : BitVec 32 := 1#32
  let v2340 : BitVec 32 := Scalar.muli v25 c1_i32_2401
  let v2341 : BitVec 32 := Scalar.addi c0_i32_2402 v2340
  v2341.toNat
def k0_dev89 (d0 : Dev nD) : Nat :=
  let c0_i32_2424 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2423 : BitVec 32 := 1#32
  let v2364 : BitVec 32 := Scalar.muli v25 c1_i32_2423
  let v2365 : BitVec 32 := Scalar.addi c0_i32_2424 v2364
  v2365.toNat
def k0_dev90 (d0 : Dev nD) : Nat :=
  let c0_i32_2436 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2435 : BitVec 32 := 1#32
  let v2374 : BitVec 32 := Scalar.muli v14 c1_i32_2435
  let v2375 : BitVec 32 := Scalar.addi c0_i32_2436 v2374
  v2375.toNat
def k0_dev91 (d0 : Dev nD) : Nat :=
  let c0_i32_2503 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2502 : BitVec 32 := 1#32
  let v2434 : BitVec 32 := Scalar.muli v14 c1_i32_2502
  let v2435 : BitVec 32 := Scalar.addi c0_i32_2503 v2434
  v2435.toNat
def k0_dev92 (d0 : Dev nD) : Nat :=
  let c0_i32_2506 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2505 : BitVec 32 := 1#32
  let v2436 : BitVec 32 := Scalar.muli v25 c1_i32_2505
  let v2437 : BitVec 32 := Scalar.addi c0_i32_2506 v2436
  v2437.toNat
def k0_dev93 (d0 : Dev nD) : Nat :=
  let c0_i32_2528 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2527 : BitVec 32 := 1#32
  let v2460 : BitVec 32 := Scalar.muli v25 c1_i32_2527
  let v2461 : BitVec 32 := Scalar.addi c0_i32_2528 v2460
  v2461.toNat
def k0_dev94 (d0 : Dev nD) : Nat :=
  let c0_i32_2540 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2539 : BitVec 32 := 1#32
  let v2470 : BitVec 32 := Scalar.muli v14 c1_i32_2539
  let v2471 : BitVec 32 := Scalar.addi c0_i32_2540 v2470
  v2471.toNat
def k0_dev95 (d0 : Dev nD) : Nat :=
  let c0_i32_2607 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2606 : BitVec 32 := 1#32
  let v2530 : BitVec 32 := Scalar.muli v14 c1_i32_2606
  let v2531 : BitVec 32 := Scalar.addi c0_i32_2607 v2530
  v2531.toNat
def k0_dev96 (d0 : Dev nD) : Nat :=
  let c0_i32_2610 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2609 : BitVec 32 := 1#32
  let v2532 : BitVec 32 := Scalar.muli v25 c1_i32_2609
  let v2533 : BitVec 32 := Scalar.addi c0_i32_2610 v2532
  v2533.toNat
def k0_dev97 (d0 : Dev nD) : Nat :=
  let c0_i32_2632 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2631 : BitVec 32 := 1#32
  let v2556 : BitVec 32 := Scalar.muli v25 c1_i32_2631
  let v2557 : BitVec 32 := Scalar.addi c0_i32_2632 v2556
  v2557.toNat
def k0_dev98 (d0 : Dev nD) : Nat :=
  let c0_i32_2644 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2643 : BitVec 32 := 1#32
  let v2566 : BitVec 32 := Scalar.muli v14 c1_i32_2643
  let v2567 : BitVec 32 := Scalar.addi c0_i32_2644 v2566
  v2567.toNat
def k0_dev99 (d0 : Dev nD) : Nat :=
  let c0_i32_2711 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2710 : BitVec 32 := 1#32
  let v2626 : BitVec 32 := Scalar.muli v14 c1_i32_2710
  let v2627 : BitVec 32 := Scalar.addi c0_i32_2711 v2626
  v2627.toNat
def k0_dev100 (d0 : Dev nD) : Nat :=
  let c0_i32_2714 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2713 : BitVec 32 := 1#32
  let v2628 : BitVec 32 := Scalar.muli v25 c1_i32_2713
  let v2629 : BitVec 32 := Scalar.addi c0_i32_2714 v2628
  v2629.toNat
def k0_dev101 (d0 : Dev nD) : Nat :=
  let c0_i32_2736 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2735 : BitVec 32 := 1#32
  let v2652 : BitVec 32 := Scalar.muli v25 c1_i32_2735
  let v2653 : BitVec 32 := Scalar.addi c0_i32_2736 v2652
  v2653.toNat
def k0_dev102 (d0 : Dev nD) : Nat :=
  let c0_i32_2748 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2747 : BitVec 32 := 1#32
  let v2662 : BitVec 32 := Scalar.muli v14 c1_i32_2747
  let v2663 : BitVec 32 := Scalar.addi c0_i32_2748 v2662
  v2663.toNat
def k0_dev103 (d0 : Dev nD) : Nat :=
  let c0_i32_2815 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2814 : BitVec 32 := 1#32
  let v2722 : BitVec 32 := Scalar.muli v14 c1_i32_2814
  let v2723 : BitVec 32 := Scalar.addi c0_i32_2815 v2722
  v2723.toNat
def k0_dev104 (d0 : Dev nD) : Nat :=
  let c0_i32_2818 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2817 : BitVec 32 := 1#32
  let v2724 : BitVec 32 := Scalar.muli v25 c1_i32_2817
  let v2725 : BitVec 32 := Scalar.addi c0_i32_2818 v2724
  v2725.toNat
def k0_dev105 (d0 : Dev nD) : Nat :=
  let c0_i32_2840 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2839 : BitVec 32 := 1#32
  let v2748 : BitVec 32 := Scalar.muli v25 c1_i32_2839
  let v2749 : BitVec 32 := Scalar.addi c0_i32_2840 v2748
  v2749.toNat
def k0_dev106 (d0 : Dev nD) : Nat :=
  let c0_i32_2852 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2851 : BitVec 32 := 1#32
  let v2758 : BitVec 32 := Scalar.muli v14 c1_i32_2851
  let v2759 : BitVec 32 := Scalar.addi c0_i32_2852 v2758
  v2759.toNat
def k0_dev107 (d0 : Dev nD) : Nat :=
  let c0_i32_2919 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2918 : BitVec 32 := 1#32
  let v2818 : BitVec 32 := Scalar.muli v14 c1_i32_2918
  let v2819 : BitVec 32 := Scalar.addi c0_i32_2919 v2818
  v2819.toNat
def k0_dev108 (d0 : Dev nD) : Nat :=
  let c0_i32_2922 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2921 : BitVec 32 := 1#32
  let v2820 : BitVec 32 := Scalar.muli v25 c1_i32_2921
  let v2821 : BitVec 32 := Scalar.addi c0_i32_2922 v2820
  v2821.toNat
def k0_dev109 (d0 : Dev nD) : Nat :=
  let c0_i32_2944 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2943 : BitVec 32 := 1#32
  let v2844 : BitVec 32 := Scalar.muli v25 c1_i32_2943
  let v2845 : BitVec 32 := Scalar.addi c0_i32_2944 v2844
  v2845.toNat
def k0_dev110 (d0 : Dev nD) : Nat :=
  let c0_i32_2956 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2955 : BitVec 32 := 1#32
  let v2854 : BitVec 32 := Scalar.muli v14 c1_i32_2955
  let v2855 : BitVec 32 := Scalar.addi c0_i32_2956 v2854
  v2855.toNat
def k0_dev111 (d0 : Dev nD) : Nat :=
  let c0_i32_3023 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_3022 : BitVec 32 := 1#32
  let v2914 : BitVec 32 := Scalar.muli v14 c1_i32_3022
  let v2915 : BitVec 32 := Scalar.addi c0_i32_3023 v2914
  v2915.toNat
def k0_dev112 (d0 : Dev nD) : Nat :=
  let c0_i32_3026 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3025 : BitVec 32 := 1#32
  let v2916 : BitVec 32 := Scalar.muli v25 c1_i32_3025
  let v2917 : BitVec 32 := Scalar.addi c0_i32_3026 v2916
  v2917.toNat
def k0_dev113 (d0 : Dev nD) : Nat :=
  let c0_i32_3048 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3047 : BitVec 32 := 1#32
  let v2940 : BitVec 32 := Scalar.muli v25 c1_i32_3047
  let v2941 : BitVec 32 := Scalar.addi c0_i32_3048 v2940
  v2941.toNat
def k0_dev114 (d0 : Dev nD) : Nat :=
  let c0_i32_3060 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_3059 : BitVec 32 := 1#32
  let v2950 : BitVec 32 := Scalar.muli v14 c1_i32_3059
  let v2951 : BitVec 32 := Scalar.addi c0_i32_3060 v2950
  v2951.toNat
def k0_dev115 (d0 : Dev nD) : Nat :=
  let c0_i32_3127 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_3126 : BitVec 32 := 1#32
  let v3010 : BitVec 32 := Scalar.muli v14 c1_i32_3126
  let v3011 : BitVec 32 := Scalar.addi c0_i32_3127 v3010
  v3011.toNat
def k0_dev116 (d0 : Dev nD) : Nat :=
  let c0_i32_3130 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3129 : BitVec 32 := 1#32
  let v3012 : BitVec 32 := Scalar.muli v25 c1_i32_3129
  let v3013 : BitVec 32 := Scalar.addi c0_i32_3130 v3012
  v3013.toNat
def k0_dev117 (d0 : Dev nD) : Nat :=
  let c0_i32_3152 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3151 : BitVec 32 := 1#32
  let v3036 : BitVec 32 := Scalar.muli v25 c1_i32_3151
  let v3037 : BitVec 32 := Scalar.addi c0_i32_3152 v3036
  v3037.toNat
def k0_dev118 (d0 : Dev nD) : Nat :=
  let c0_i32_3164 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_3163 : BitVec 32 := 1#32
  let v3046 : BitVec 32 := Scalar.muli v14 c1_i32_3163
  let v3047 : BitVec 32 := Scalar.addi c0_i32_3164 v3046
  v3047.toNat
def k0_dev119 (d0 : Dev nD) : Nat :=
  let c0_i32_3231 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_3230 : BitVec 32 := 1#32
  let v3106 : BitVec 32 := Scalar.muli v14 c1_i32_3230
  let v3107 : BitVec 32 := Scalar.addi c0_i32_3231 v3106
  v3107.toNat
def k0_dev120 (d0 : Dev nD) : Nat :=
  let c0_i32_3234 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3233 : BitVec 32 := 1#32
  let v3108 : BitVec 32 := Scalar.muli v25 c1_i32_3233
  let v3109 : BitVec 32 := Scalar.addi c0_i32_3234 v3108
  v3109.toNat
def k0_dev121 (d0 : Dev nD) : Nat :=
  let c0_i32_3256 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3255 : BitVec 32 := 1#32
  let v3132 : BitVec 32 := Scalar.muli v25 c1_i32_3255
  let v3133 : BitVec 32 := Scalar.addi c0_i32_3256 v3132
  v3133.toNat
def k0_dev122 (d0 : Dev nD) : Nat :=
  let c0_i32_3268 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_3267 : BitVec 32 := 1#32
  let v3142 : BitVec 32 := Scalar.muli v14 c1_i32_3267
  let v3143 : BitVec 32 := Scalar.addi c0_i32_3268 v3142
  v3143.toNat
abbrev stage0_0 : Fin 1 → Memref sig .tc .vmem S8192x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8192x8192 : Shape := ⟨2, ![8192, 8192]⟩
abbrev S8192x4096 : Shape := ⟨2, ![8192, 4096]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x4096, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S_, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S8192x4096, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== UnclippedIdeal.lean ====
abbrev S8192x8192 : Shape := ⟨2, ![8192, 8192]⟩
abbrev S8192x4096 : Shape := ⟨2, ![8192, 4096]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x4096, .f32⟩
  | .hbm, ⟨3, _⟩ => ⟨S8192x4096, .f32⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x4096, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Parts.lean ====
/-
  The kernel's body as a composition of short pieces. The ring runs twice at once, in two directions: direction `false`
  sends to the right neighbour and works on the left half of the result's columns, direction `true` sends to the left
  neighbour and works on the right half. Each piece is written once, for a direction and a step; `body_eq` says that the
  printed body is the composition of these pieces.
-/
module

public import proofs.«01_k».proof.Defs
public import Idealize.ShloMosaic.Lib.Pipeline.Launch
public import Idealize.ShloMosaic.Lib.Tactic
public import proofs.«01_k».proof.Proof.Gen.KernelIdeal
public import proofs.«01_k».proof.Proof.Gen.KernelIdeal.Skeleton

@[expose] public section

noncomputable section

namespace Cert.Proof

open Cert.KernelIdeal Cert.KernelIdeal.Gen
open Idealize.ShloMosaic Idealize.SL.Sem

variable {F : FTy → Type} [FloatOps F]

/-- The programs the pieces are. -/
abbrev Pg (F : FTy → Type) [FloatOps F] (α : Type) : Type 1 := Prog (TpuEff nD τ sig (Elt F) Λ₀ .tc) α

/-! ### The buffers and semaphores of a direction -/

/-- The first column of the direction's half. -/
def lo : Bool → ℕ
  | false => 0
  | true => 2048

theorem lo_inb (d : Bool) : ∀ a, (![0, lo d] : Fin 2 → ℕ) a + S512x2048.size a ≤ S512x4096.size a := by
  cases d <;> decide

/-- The neighbour the direction sends to; -/
def nb : Bool → Dev nD → Dev nD
  | false, c => ⟨k0_dev2 c, k0_dev2_lt c⟩
  | true, c => ⟨k0_dev1 c, k0_dev1_lt c⟩

/-- the neighbour it receives from. -/
def src : Bool → Dev nD → Dev nD
  | false, c => ⟨k0_dev1 c, k0_dev1_lt c⟩
  | true, c => ⟨k0_dev2 c, k0_dev2_lt c⟩

/-- The buffer a step's product is put in; -/
def accR : Bool → Ref sig .tc
  | false => cc0_scratch0
  | true => cc0_scratch1

def accM : (d : Bool) → Memref sig .tc .vmem S512x2048 .f32
  | false => Memref.whole cc0_scratch0
  | true => Memref.whole cc0_scratch1

/-- the two slots of a pass: the reducing pass `false` and the gathering pass `true`. -/
def bufM : (g d : Bool) → Memref sig .tc .vmem S2x512x2048 .f32
  | false, false => Memref.whole cc0_scratch2
  | false, true => Memref.whole cc0_scratch3
  | true, false => Memref.whole cc0_scratch4
  | true, true => Memref.whole cc0_scratch5

/-- The result's buffer. -/
def outM : Memref sig .tc .hbm S8192x4096 .f32 := Memref.whole main_v1

theorem two_inb (k : Fin 2) : ∀ a, (![k.val] : Fin 1 → ℕ) a + S1.size a ≤ S2.size a := by revert k; decide

theorem slot_inb (k : Fin 2) : ∀ a, (![k.val, 0, 0] : Fin 3 → ℕ) a + S1x512x2048.size a ≤ S2x512x2048.size a := by
  revert k; decide

/-- One of the two semaphores of an array. -/
def semAt (a : DmaSems sig S2) (k : Fin 2) : DmaSem sig :=
  ((a.slice (Rect.unit (s := S2) ![k.val] S1.size (two_inb k))).squeeze S_ squeezes_S1_S_).sem

/-- The semaphores of a pass and a direction: a slot is sent, -/
def sendS : (g d : Bool) → Fin 2 → DmaSem sig
  | false, false, k => semAt cc0_scratch6 k
  | false, true, k => semAt cc0_scratch8 k
  | true, false, k => semAt cc0_scratch10 k
  | true, true, k => semAt cc0_scratch12 k

/-- a slot is received, -/
def recvS : (g d : Bool) → Fin 2 → DmaSem sig
  | false, false, k => semAt cc0_scratch7 k
  | false, true, k => semAt cc0_scratch9 k
  | true, false, k => semAt cc0_scratch11 k
  | true, true, k => semAt cc0_scratch13 k

/-- a block is stored, -/
def store (d : Bool) (k : Fin 2) : DmaSem sig := semAt (bif d then cc0_scratch19 else cc0_scratch18) k

/-- the neighbour's slot is free. -/
def credS : (g d : Bool) → Sem sig
  | false, false => (cc0_scratch14 : Sems sig S_).sem
  | false, true => (cc0_scratch15 : Sems sig S_).sem
  | true, false => (cc0_scratch16 : Sems sig S_).sem
  | true, true => (cc0_scratch17 : Sems sig S_).sem

/-- The neighbours have entered. -/
def barrier : Sem sig := (SemArray.scalar (sig.barrier 0 rfl) : Sems sig S_).sem

/-- Slot `k` as a buffer of its own. -/
def slot (M : Memref sig .tc .vmem S2x512x2048 .f32) (k : Fin 2) : Memref sig .tc .vmem S512x2048 .f32 :=
  (M.slice (Rect.unit (s := S2x512x2048) ![k.val, 0, 0] S1x512x2048.size (slot_inb k)) (fun _ => rfl)).squeeze
    S512x2048 squeezes_S1x512x2048_S512x2048

/-- The parity of a step, as a slot. -/
def par (n : ℕ) : Fin 2 := ⟨n % 2, Nat.mod_lt _ (by decide)⟩

/-- The other slot. -/
def other : Fin 2 → Fin 2
  | 0 => 1
  | 1 => 0

/-- The slot a step of parity `k` sends, -/
def srcP (g : Bool) (k : Fin 2) : Fin 2 := bif g then k else other k

/-- and the slot it fills at the neighbour. -/
def dstP (g : Bool) (k : Fin 2) : Fin 2 := bif g then other k else k

/-- The offset of the rows of `x` the step's product reads: the rows every device's own block starts at, -/
def rsOff : Bool → Dev nD → ℕ → Fin 2 → ℕ
  | false, c, s => k0_off2 c (BitVec.ofNat 32 s)
  | true, c, s => k0_off3 c (BitVec.ofNat 32 s)

theorem rsOff_inb (d : Bool) (c : Dev nD) (s : Fin 15) :
    ∀ a, rsOff d c s.val a + S512x512.size a ≤ S8192x512.size a := by
  cases d
  · exact k0_off2_inb c s
  · exact k0_off3_inb c s

/-- and the offset of the block of the result the device stores first, then those it receives. -/
def outOff : Bool → Dev nD → ℕ → Fin 2 → ℕ
  | false, c, 0 => k0_off4 c
  | false, c, h + 1 => k0_off6 c (BitVec.ofNat 32 h)
  | true, c, 0 => k0_off5 c
  | true, c, h + 1 => k0_off7 c (BitVec.ofNat 32 h)

theorem outOff_inb (d : Bool) (c : Dev nD) (n : Fin 16) :
    ∀ a, outOff d c n.val a + S512x2048.size a ≤ S8192x4096.size a := by
  match d, n with
  | false, ⟨0, _⟩ => exact k0_off4_inb c
  | false, ⟨h + 1, hh⟩ => exact k0_off6_inb c ⟨h, Nat.lt_of_succ_lt_succ hh⟩
  | true, ⟨0, _⟩ => exact k0_off5_inb c
  | true, ⟨h + 1, hh⟩ => exact k0_off7_inb c ⟨h, Nat.lt_of_succ_lt_succ hh⟩

/-- The `n`-th block of the result's buffer the device stores. -/
def outB (d : Bool) (c : Dev nD) (n : Fin 16) : Memref sig .tc .hbm S512x2048 .f32 :=
  outM.slice (Rect.unit (s := S8192x4096) (outOff d c n.val) S512x2048.size (outOff_inb d c n)) (fun _ => rfl)

/-! ### The values -/

/-- The product of a block of `x`'s rows with half of `w`'s columns; -/
def dotV (a : Vec F S512x512 .f32) (b : Vec F S512x2048 .f32) : FVec F S512x2048 .f32 :=
  matmul dot_S512x512_S512x2048_S512x2048_1_0_0_1_n_n none (shapeCast S512x512 a shapeCasts_S512x512_S512x512)
    (shapeCast S512x2048 b shapeCasts_S512x2048_S512x2048) (constant S512x2048 .f32 0x00000000#32)

/-- a value as the contents of a slot; -/
def asSlot (v : FVec F S512x2048 .f32) : FVec F S1x512x2048 .f32 :=
  shapeCast S1x512x2048 v shapeCasts_S512x2048_S1x512x2048

/-- the contents of a slot as a value; -/
def ofSlot (v : Vec F S1x512x2048 .f32) : FVec F S512x2048 .f32 :=
  shapeCast S512x2048 v shapeCasts_S1x512x2048_S512x2048

/-- the sum of what a slot holds and the step's product; -/
def addV (v : Vec F S1x512x2048 .f32) (a : Vec F S512x2048 .f32) : FVec F S1x512x2048 .f32 :=
  asSlot (addf (ofSlot v) a)

/-- `y * (1 / (1 + exp (0 - y)))`. -/
def siluV (y : FVec F S512x2048 .f32) : FVec F S512x2048 .f32 :=
  mulf y (divf (broadcast S512x2048 (Scalar.ofBits .f32 0x3F800000#32))
    (addf (broadcast S512x2048 (Scalar.ofBits .f32 0x3F800000#32))
      (exp (subf (broadcast S512x2048 (Scalar.ofBits .f32 0x00000000#32)) y))))

/-! ### The pieces, each followed by the rest of the program `k` -/

/-- Read the rows of `x` at an offset; -/
def loadX (x : Memref sig .tc .vmem S8192x512 .f32) (o : Fin 2 → ℕ) (h : ∀ a, o a + S512x512.size a ≤ S8192x512.size a)
    (k : Vec F S512x512 .f32 → Pg F PUnit) : Pg F PUnit :=
  .op (.load x (Rect.unit (s := S8192x512) o S512x512.size h).toLoadRect (View.loadsAt_vmem h_S512x512)) k

/-- the direction's columns of `w`; -/
def loadW (w : Memref sig .tc .vmem S512x4096 .f32) (d : Bool) (k : Vec F S512x2048 .f32 → Pg F PUnit) : Pg F PUnit :=
  .op (.load w (Rect.unit (s := S512x4096) ![0, lo d] S512x2048.size (lo_inb d)).toLoadRect
    (View.loadsAt_vmem h_S512x2048)) k

/-- a slot; -/
def loadSlot (M : Memref sig .tc .vmem S2x512x2048 .f32) (p : Fin 2) (k : Vec F S1x512x2048 .f32 → Pg F PUnit) :
    Pg F PUnit :=
  .op (.load M (Rect.unit (s := S2x512x2048) ![p.val, 0, 0] S1x512x2048.size (slot_inb p)).toLoadRect
    (View.loadsAt_vmem h_S1x512x2048)) k

/-- write a slot; -/
def storeSlot (M : Memref sig .tc .vmem S2x512x2048 .f32) (p : Fin 2) (v : FVec F S1x512x2048 .f32) (k : Pg F PUnit) :
    Pg F PUnit :=
  .op (.store M (Rect.unit (s := S2x512x2048) ![p.val, 0, 0] S1x512x2048.size (slot_inb p)) v Finset.univ
    (View.stores_vmem_bits_univ h_S1x512x2048 rfl) (.inl rfl)) fun _ => k

/-- read the product's buffer; -/
def loadAcc (d : Bool) (k : Vec F S512x2048 .f32 → Pg F PUnit) : Pg F PUnit :=
  .op (.load (accM d) (Rect.unit (s := S512x2048) ![0, 0] S512x2048.size inb_S512x2048_S512x2048_0_0).toLoadRect
    (View.loadsAt_vmem h_S512x2048)) k

/-- write it. -/
def storeAcc (d : Bool) (v : FVec F S512x2048 .f32) (k : Pg F PUnit) : Pg F PUnit :=
  .op (.store (accM d) (Rect.unit (s := S512x2048) ![0, 0] S512x2048.size inb_S512x2048_S512x2048_0_0) v
    Finset.univ (View.stores_vmem_bits_univ h_S512x2048 rfl) (.inl rfl)) fun _ => k

/-- Signal one unit of a device's semaphore; -/
def signal (t : Dev nD) (s : Sem sig) (k : Pg F PUnit) : Pg F PUnit :=
  .op (.semSignal (t, .tc) s (1#32).toInt) fun _ => k

/-- wait for units of one's own. -/
def wait (s : Sem sig) (n : BitVec 32) (k : Pg F PUnit) : Pg F PUnit :=
  .op (.semWait s n.toInt) fun _ => k

/-- Send slot `p` of a two-slot buffer to slot `p'` at device `t`. -/
def sendSlot (M : Memref sig .tc .vmem S2x512x2048 .f32) (p p' : Fin 2) (t : Dev nD) (sS sR : DmaSem sig)
    (k : Pg F PUnit) : Pg F PUnit :=
  .op (.enqueueDma (slot M p) (.remote (Dev.tc t) (slot M p') (.dma sS)) (.dma sR)
    ((View.wordExact_bits rfl).reshape _ _) ((View.wordExact_bits rfl).reshape _ _) ⟨⟨rfl, Or.inl rfl⟩, trivial⟩)
    fun _ => k

/-- Wait for a transfer between two slots. -/
def waitSlot (M : Memref sig .tc .vmem S2x512x2048 .f32) (p p' : Fin 2) (s : DmaSem sig) (k : Pg F PUnit) : Pg F PUnit :=
  .op (.waitDma2 s (slot M p) (slot M p') ((View.wordExact_bits rfl).reshape _ _)
    ((View.wordExact_bits rfl).reshape _ _)) fun _ => k

/-- Both neighbours are met. -/
def meet (c : Dev nD) (k : Pg F PUnit) : Pg F PUnit :=
  signal (nb true c) barrier <| signal (nb false c) barrier <| wait barrier 2#32 k

/-- Put a device's own block into slot 1. -/
def first (x : Memref sig .tc .vmem S8192x512 .f32) (w : Memref sig .tc .vmem S512x4096 .f32) (d : Bool) (c : Dev nD)
    (k : Pg F PUnit) : Pg F PUnit :=
  loadX x (k0_off1 c) (k0_off1_inb c) fun a => loadW w d fun b => loadSlot (bufM false d) 1 fun _ =>
    storeSlot (bufM false d) 1 (asSlot (dotV a b)) k

/-- Once the neighbour has granted its slot, send step `s`'s block to it. -/
def start (g d : Bool) (c : Dev nD) (s : ℕ) (k : Pg F PUnit) : Pg F PUnit :=
  wait (credS g d) 1#32 <|
    sendSlot (bufM g d) (srcP g (par s)) (dstP g (par s)) (nb d c) (sendS g d (srcP g (par s)))
      (recvS g d (dstP g (par s))) k

/-- Step `s`'s block has been received; -/
def recv (g d : Bool) (s : ℕ) (k : Pg F PUnit) : Pg F PUnit :=
  waitSlot (bufM g d) (srcP g (par s)) (dstP g (par s)) (recvS g d (dstP g (par s))) k

/-- step `s`'s block has been sent. -/
def sent (g d : Bool) (s : ℕ) (k : Pg F PUnit) : Pg F PUnit :=
  waitSlot (bufM g d) (dstP g (par s)) (srcP g (par s)) (sendS g d (srcP g (par s))) k

/-- Grant the slot that has been sent to the neighbour that sends here. -/
def grant (g d : Bool) (c : Dev nD) (k : Pg F PUnit) : Pg F PUnit := signal (src d c) (credS g d) k

/-- The step's own product. -/
def rsDot (x : Memref sig .tc .vmem S8192x512 .f32) (w : Memref sig .tc .vmem S512x4096 .f32) (d : Bool) (c : Dev nD)
    (s : Fin 15) (k : Pg F PUnit) : Pg F PUnit :=
  loadX x (rsOff d c s.val) (rsOff_inb d c s) fun a => loadW w d fun b => loadAcc d fun _ =>
    storeAcc d (shapeCast S512x2048 (dotV a b) shapeCasts_S512x2048_S512x2048) k

/-- Add the step's product to the partial sum received. -/
def rsAdd (d : Bool) (s : ℕ) (k : Pg F PUnit) : Pg F PUnit :=
  loadSlot (bufM false d) (par s) fun v => loadAcc d fun a => loadSlot (bufM false d) (par s) fun _ =>
    storeSlot (bufM false d) (par s) (addV v a) k

/-- One direction's half of a reducing step. -/
def rsHalf (d : Bool) (c : Dev nD) (s : ℕ) (k : Pg F PUnit) : Pg F PUnit :=
  recv false d s <| sent false d s <|
    if s < 14 then grant false d c <| rsAdd d s <| start false d c (s + 1) k else rsAdd d s k

/-- A reducing step. -/
def rsStep (x : Memref sig .tc .vmem S8192x512 .f32) (w : Memref sig .tc .vmem S512x4096 .f32) (c : Dev nD) (s : Fin 15)
    (k : Pg F PUnit) : Pg F PUnit :=
  rsDot x w false c s <| rsDot x w true c s <| rsHalf false c s.val <| rsHalf true c s.val k

/-- The activation of the device's reduced block. -/
def act (d : Bool) (k : Pg F PUnit) : Pg F PUnit :=
  loadSlot (bufM false d) 0 fun v => loadSlot (bufM true d) 0 fun _ => storeSlot (bufM true d) 0 (asSlot (siluV (ofSlot v))) k

/-- Start storing the `n`-th block. -/
def putStart (d : Bool) (c : Dev nD) (n : Fin 16) (k : Pg F PUnit) : Pg F PUnit :=
  .op (.enqueueDma (slot (bufM true d) (par n.val)) (.here (outB d c n)) (.dma (store d (other (par n.val))))
    ((View.wordExact_bits rfl).reshape _ _) (View.wordExact_bits rfl) ⟨Or.inl rfl, trivial⟩) fun _ => k

/-- The `n`-th block is stored. -/
def putWait (d : Bool) (c : Dev nD) (n : Fin 16) (k : Pg F PUnit) : Pg F PUnit :=
  .op (.waitDma2 (store d (other (par n.val))) (slot (bufM true d) (par n.val)) (outB d c n)
    ((View.wordExact_bits rfl).reshape _ _) (View.wordExact_bits rfl)) fun _ => k

/-- A block arrives and is stored. -/
def agTake (d : Bool) (c : Dev nD) (h : Fin 15) (k : Pg F PUnit) : Pg F PUnit :=
  recv true d h.val <| putStart d c h.succ k

/-- A gathering step. -/
def agStep (c : Dev nD) (h : Fin 15) (k : Pg F PUnit) : Pg F PUnit :=
  start true false c h.val <| start true true c h.val <| agTake false c h <| agTake true c h <|
    putWait false c h.castSucc <| putWait true c h.castSucc <| sent true false h.val <| sent true true h.val <|
      if h.val < 14 then grant true false c <| grant true true c k else k

/-- The steps before the `n`-th, in order. -/
def upto (f : Fin 15 → Pg F PUnit → Pg F PUnit) : (n : ℕ) → n ≤ 15 → Pg F PUnit → Pg F PUnit
  | 0, _, k => k
  | n + 1, h, k => upto f n (Nat.le_of_succ_le h) (f ⟨n, h⟩ k)

/-- Everything before the first step. -/
def prologue (x : Memref sig .tc .vmem S8192x512 .f32) (w : Memref sig .tc .vmem S512x4096 .f32) (c : Dev nD)
    (k : Pg F PUnit) : Pg F PUnit :=
  meet c <| grant false false c <| grant false true c <| grant true false c <| grant true true c <| first x w false c <|
    first x w true c <| start false false c 0 <| start false true c 0 k

/-- Between the two passes. -/
def middle (c : Dev nD) (k : Pg F PUnit) : Pg F PUnit :=
  act false <| act true <| putStart false c 0 <| putStart true c 0 k

/-- The body at device `c`. -/
def bodyAt (x : Memref sig .tc .vmem S8192x512 .f32) (w : Memref sig .tc .vmem S512x4096 .f32) (c : Dev nD) :
    Pg F PUnit :=
  prologue x w c <| upto (rsStep x w c) 15 (Nat.le_refl _) <| middle c <| upto (agStep c) 15 (Nat.le_refl _) <|
    putWait false c 15 <| putWait true c 15 <| .ret ⟨⟩

/-- The whole body: it reads which device it is on. -/
def body (x : Memref sig .tc .vmem S8192x512 .f32) (w : Memref sig .tc .vmem S512x4096 .f32) : Pg F PUnit :=
  .op .deviceId fun c => bodyAt x w c

set_option maxRecDepth 65536 in
/-- The printed body is the composition. -/
theorem body_eq (x : Memref sig .tc .vmem S8192x512 .f32) (hx : x.IsWhole)
    (w : Memref sig .tc .vmem S512x4096 .f32) (hw : w.IsWhole) :
    cc0_body (F := F) x hx w hw (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19
      = body x w := by
  rfl

end Cert.Proof

end
-- ==== Proof.Values.lean ====
/-
  The values the ring computes. Device `c`'s partial sums start at the product of its own block of `x`'s rows with its
  half of `w`'s columns; each step adds the receiving device's product for the same rows. After the last step every
  device holds one whole block of the product, which it activates and passes round.
-/
module

public import proofs.«01_k».proof.Proof.Parts

@[expose] public section

noncomputable section

namespace Cert.Proof

open Cert.KernelIdeal Cert.KernelIdeal.Gen
open Idealize.ShloMosaic Idealize.ShloMosaic.TcCoe Idealize.SL.Sem

variable {F : FTy → Type} [FloatOps F]

/-! ### The ring -/

theorem nb_src (d : Bool) (c : Dev nD) : nb d (src d c) = c := by revert d c; decide +kernel
theorem src_nb (d : Bool) (c : Dev nD) : src d (nb d c) = c := by revert d c; decide +kernel
theorem src_not (d : Bool) (c : Dev nD) : src d c = nb (!d) c := by cases d <;> rfl

/-- The permutation of the devices a direction's sending is. -/
def ring (d : Bool) : Dev nD ≃ Dev nD := ⟨nb d, src d, src_nb d, nb_src d⟩

/-- The block of rows device `c` multiplies at its `n`-th product. -/
def chunk (d : Bool) (c : Dev nD) (n : ℕ) : Fin 16 := ⟨(c.val + bif d then n else 16 - n % 16) % 16, Nat.mod_lt _ (by decide)⟩

theorem off1_chunk (d : Bool) (c : Dev nD) : k0_off1 c = ![512 * (chunk d c 0).val, 0] := by
  revert d c; decide +kernel

theorem rsOff_chunk (d : Bool) (c : Dev nD) (s : Fin 15) : rsOff d c s.val = ![512 * (chunk d c (s.val + 1)).val, 0] := by
  revert d c s; decide +kernel

theorem outOff_eq (d : Bool) (c : Dev nD) (n : Fin 16) :
    outOff d c n.val = ![512 * (nb d ((src d)^[n.val] c)).val, lo d] := by
  revert d c n; decide +kernel

/-! ### Parities -/

theorem par_succ (n : ℕ) : par (n + 1) = other (par n) := by
  rcases Nat.mod_two_eq_zero_or_one n with h | h
  · have e1 : par n = 0 := Fin.ext h
    have e2 : par (n + 1) = 1 := Fin.ext (by show (n + 1) % 2 = 1; omega)
    rw [e1, e2]; rfl
  · have e1 : par n = 1 := Fin.ext h
    have e2 : par (n + 1) = 0 := Fin.ext (by show (n + 1) % 2 = 0; omega)
    rw [e1, e2]; rfl

theorem half_eq (n : ℕ) : 2 * (n / 2) + (par n).val = n := by show 2 * (n / 2) + n % 2 = n; omega

theorem other_other (k : Fin 2) : other (other k) = k := by revert k; decide
theorem other_ne (k : Fin 2) : other k ≠ k := by revert k; decide

/-! ### The blocks of the inputs -/

theorem rowRect_inb (j : Fin 16) : ∀ a, (![512 * j.val, 0] : Fin 2 → ℕ) a + S512x512.size a ≤ S8192x512.size a := by
  revert j; decide

/-- The `j`-th block of rows of `x`; -/
def rows (X : Vec F S8192x512 .f32) (j : Fin 16) : Vec F S512x512 .f32 := fun i =>
  X ((Rect.unit (s := S8192x512) ![512 * j.val, 0] S512x512.size (rowRect_inb j)).emb i)

/-- the direction's half of `w`'s columns. -/
def cols (W : Vec F S512x4096 .f32) (d : Bool) : Vec F S512x2048 .f32 := fun i =>
  W ((Rect.unit (s := S512x4096) ![0, lo d] S512x2048.size (lo_inb d)).emb i)

variable (m : (ℓ : Loc nD τ sig) → Buf (Elt F) ℓ)

/-- Device `c`'s block of `x`, as its kernel sees it; -/
def xs (c : Dev nD) : (cc0_stg0_0 : Ref sig .tc).ty.Contents (Elt F) :=
  (win0_0.blk (0 : Fin 1)).view.read (Elt F) (m ((c : Thread nD τ).loc main_arg0))

/-- of `w`. -/
def ws (c : Dev nD) : (cc0_stg1_0 : Ref sig .tc).ty.Contents (Elt F) :=
  (win0_1.blk (0 : Fin 1)).view.read (Elt F) (m ((c : Thread nD τ).loc main_arg1))

/-- Device `c`'s `n`-th product. -/
def prodV (d : Bool) (c : Dev nD) (n : ℕ) : FVec F S512x2048 .f32 :=
  dotV (rows (xs m c) (chunk d c n)) (cols (ws m c) d)

/-- A product as the product's buffer holds it. -/
def accV (v : FVec F S512x2048 .f32) : FVec F S512x2048 .f32 := shapeCast S512x2048 v shapeCasts_S512x2048_S512x2048

/-- The partial sum device `c` sends at step `s`; at `s = 15` the whole sum it ends with. -/
def sumV (d : Bool) : ℕ → Dev nD → FVec F S1x512x2048 .f32
  | 0, c => asSlot (prodV m d c 0)
  | s + 1, c => addV (sumV d s (src d c)) (accV (prodV m d c (s + 1)))

/-- The activated block device `c` owns; -/
def ownV (d : Bool) (c : Dev nD) : FVec F S1x512x2048 .f32 := asSlot (siluV (ofSlot (sumV m d 15 c)))

/-- the block it holds at gathering step `h`. -/
def gatV (d : Bool) (h : ℕ) (c : Dev nD) : FVec F S1x512x2048 .f32 := ownV m d ((src d)^[h] c)

/-- What a device sends at a step of a pass. -/
def sendV (g d : Bool) (s : ℕ) (c : Dev nD) : FVec F S1x512x2048 .f32 := bif g then gatV m d s c else sumV m d s c

/-- The result: its block of rows `j` and half of columns `d` was activated by the device before `j` in the direction. -/
def outV (i : S8192x4096.Idx) : Elt F .f32 :=
  ofSlot (ownV m (decide (2048 ≤ (i 1).val)) (src (decide (2048 ≤ (i 1).val)) ⟨(i 0).val / 512, Nat.div_lt_of_lt_mul (i 0).isLt⟩))
    (fun | ⟨0, _⟩ => ⟨(i 0).val % 512, Nat.mod_lt _ (by decide)⟩ | ⟨1, _⟩ => ⟨(i 1).val % 2048, Nat.mod_lt _ (by decide)⟩)

end Cert.Proof

end
-- ==== Proof.Cells.lean ====
/-
  The protocol of the ring. Every semaphore the kernel waits on is a cell, used in rounds: a round of a cell is complete
  when its units have arrived, and each unit hands the cell's owner a payload. A credit cell hands over a free slot of
  the neighbour; a receive cell the block that has landed; a send cell and a store cell the slot that was read. The
  payments a device makes to the others are numbered in program order; a cell's level at a step is the number of the
  payment that fills it, and every wait is for a payment numbered below all that the waiting device still owes.
-/
module

public import proofs.«01_k».proof.Proof.Values
public import proofs.«01_k».proof.Proof.Gen.KernelIdeal.Launch

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The rounds' ghost state, with duties named by `Bool`; -/
abbrev UB : Type := URounds (GSem nD τ sig) Bool
/-- beside the pipeline's. -/
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

variable (m : (ℓ : Loc nD τ sig) → Buf (Elt F) ℓ)

/-! ### The cells of a device -/

/-- The cells: the entry barrier; for each pass and direction the credit cell and, by parity of the step, the send and
    receive cells; for each direction, by parity of the block, the store cells. -/
inductive CK where
  | bar
  | cr (g d : Bool)
  | sS (g d : Bool) (k : Fin 2)
  | sR (g d : Bool) (k : Fin 2)
  | st (d : Bool) (k : Fin 2)
  deriving DecidableEq, Fintype

def csem : CK → SemLoc sig
  | .bar => .reg barrier
  | .cr g d => .reg (credS g d)
  | .sS g d k => .dma (sendS g d (srcP g k))
  | .sR g d k => .dma (recvS g d (dstP g k))
  | .st d k => .dma (store d (other k))

theorem csem_injective : Function.Injective csem := by
  have h : ∀ a b : CK, csem a = csem b → a = b := by decide +kernel
  exact fun a b => h a b

/-- The cell at device `c`. -/
abbrev cellAt (c : Dev nD) (k : CK) : GSem nD τ sig := ((c : Thread nD τ), csem k)

theorem cellAt_injective : Function.Injective fun p : Dev nD × CK => cellAt p.1 p.2 := by
  rintro ⟨c, k⟩ ⟨c', k'⟩ h
  have h1 : c = c' := congrArg (fun g : GSem nD τ sig => g.1.1) h
  have h2 : k = k' := csem_injective (congrArg (fun g : GSem nD τ sig => g.2) h)
  rw [h1, h2]

open Classical in
/-- Which cell a semaphore is. -/
def ckOf (sm : SemLoc sig) : Option CK := if h : ∃ k, csem k = sm then some h.choose else none

theorem ckOf_csem (k : CK) : ckOf (csem k) = some k := by
  have h : ∃ k', csem k' = csem k := ⟨k, rfl⟩
  unfold ckOf
  rw [dif_pos h, csem_injective h.choose_spec]

/-- The rounds a cell goes through. -/
def rounds : CK → ℕ
  | .bar => 1
  | .cr _ _ => 15
  | .sS _ _ k => 8 - k.val
  | .sR _ _ k => 8 - k.val
  | .st _ _ => 8

/-! ### The slots -/

/-- The share of a sent slot the transfer reads: the whole of it when reducing, half when the other half is being
    stored. -/
def shareOf (g : Bool) : PosShare TreeShare := bif g then fullShare.right else fullShare

/-- A device's slot with the contents `t` in it; -/
def slotFill (g d : Bool) (c : Dev nD) (k : Fin 2) (t : FVec F S1x512x2048 .f32) :
    Buf (Elt F) ((slot (bufM g d) k).view.loc (c : Thread nD τ)) :=
  ((bufM g d).access (Rect.unit (s := S2x512x2048) ![k.val, 0, 0] S1x512x2048.size (slot_inb k))).write (Elt F)
    (m ((slot (bufM g d) k).view.loc (c : Thread nD τ))) t Finset.univ

/-- held at a share; -/
def slotPts (g d : Bool) (c : Dev nD) (k : Fin 2) (q : PosShare TreeShare) (t : FVec F S1x512x2048 .f32) : sProp 𝕄 :=
  (slot (bufM g d) k).view.loc (c : Thread nD τ) ↦[(slot (bufM g d) k).view.set]{q} slotFill m g d c k t

/-- held whole with any contents. -/
def slotAny (g d : Bool) (c : Dev nD) (k : Fin 2) : sProp 𝕄 :=
  iprop(∃ f, (slot (bufM g d) k).view.loc (c : Thread nD τ) ↦[(slot (bufM g d) k).view.set]{fullShare} f)

/-- A number as the number of a block. -/
def blk (n : ℕ) : Fin 16 := ⟨n % 16, Nat.mod_lt _ (by decide)⟩

/-- The result as the contents of a device's result buffer. -/
def outBuf (d : Bool) (c : Dev nD) (n : Fin 16) : Buf (Elt F) ((outB d c n).view.loc (c : Thread nD τ)) := outV m

/-- The `n`-th block a device stores, holding the result; -/
def outPts (d : Bool) (c : Dev nD) (n : ℕ) : sProp 𝕄 :=
  (outB d c (blk n)).view.loc (c : Thread nD τ) ↦[(outB d c (blk n)).view.set]{fullShare} outBuf m d c (blk n)

/-- holding anything. -/
def outAny (d : Bool) (c : Dev nD) (n : ℕ) : sProp 𝕄 :=
  iprop(∃ f, (outB d c (blk n)).view.loc (c : Thread nD τ) ↦[(outB d c (blk n)).view.set]{fullShare} f)

instance slotPts_storable (g d c k q t) : BI.Storable (upEmb : UEmb _ 𝕄) (slotPts (F := F) m g d c k q t) := by
  unfold slotPts; infer_instance
instance slotAny_storable (g d c k) : BI.Storable (upEmb : UEmb _ 𝕄) (slotAny (F := F) g d c k) := by
  unfold slotAny; infer_instance
instance outPts_storable (d c n) : BI.Storable (upEmb : UEmb _ 𝕄) (outPts (F := F) m d c n) := by
  unfold outPts; infer_instance

/-! ### The schedule -/

/-- The credit of one block. -/
def N : ℕ := (slot (bufM false false) 0).view.dmaCredit

theorem N_pos : 0 < N := View.dmaCredit_pos _ (by decide)

theorem slot_credit (g d : Bool) (k : Fin 2) : (slot (bufM g d) k).view.dmaCredit = N := by
  cases g <;> cases d <;> rfl

theorem outB_credit (d : Bool) (c : Dev nD) (n : Fin 16) : (outB d c n).view.dmaCredit = N := rfl

/-- What a round of a cell of device `c` hands it. -/
def pay (c : Dev nD) : CK → ℕ → sProp 𝕄
  | .bar, _ => iprop(emp)
  | .cr g d, r => iprop(slotAny g d (nb d c) (dstP g (par r)) ∗ reached ER (cellAt (nb d c) (.sR g d (par r))) (r / 2))
  | .sS g d k, j => slotPts m g d c (srcP g k) (shareOf g) (sendV m g d (2 * j + k.val) c)
  | .sR g d k, j => iprop(slotPts m g d c (dstP g k) fullShare (sendV m g d (2 * j + k.val) (src d c))
      ∗ reached ER (cellAt (src d c) (.cr g d)) (2 * j + k.val + 1))
  | .st d k, j => iprop(outPts m d c (2 * j + k.val) ∗ slotPts m true d c k fullShare.left (gatV m d (2 * j + k.val) c))

instance pay_storable (c : Dev nD) (k : CK) (r : ℕ) : BI.Storable (upEmb : UEmb _ 𝕄) (pay m c k r) := by
  cases k <;> unfold pay <;> infer_instance

/-- The duties of a round; -/
def duties : Option CK → ℕ → Finset Bool
  | some .bar, r => if r < 1 then Finset.univ else ∅
  | some k, r => if r < rounds k then {false} else ∅
  | none, _ => ∅

/-- the units of a payment to a cell. -/
def units : Option CK → ℕ
  | some .bar => 1
  | some (.cr _ _) => 1
  | _ => N

/-- What the rounds hand over. -/
def payO (c : Dev nD) : Option CK → ℕ → sProp 𝕄
  | some k, r => pay m c k r
  | none, _ => iprop(emp)

/-- The protocol. -/
def Rd : Rounds.Schedule (GSem nD τ sig) Bool 𝕄 where
  duties g r := duties (ckOf g.2) r
  unitless _ := False
  amount g _ _ := units (ckOf g.2)
  payload g r _ := payO m g.1.1 (ckOf g.2) r
  amount_pos g _ _ _ := by
    show 0 < units (ckOf g.2)
    unfold units; split
    · exact Nat.one_pos
    · exact Nat.one_pos
    · exact N_pos

instance Rd_storable (g : GSem nD τ sig) (r : ℕ) (d : Bool) :
    BI.Storable (upEmb : UEmb _ 𝕄) ((Rd (F := F) m).payload g r d) := by
  show BI.Storable upEmb (payO m g.1.1 (ckOf g.2) r)
  cases ckOf g.2 <;> unfold payO <;> infer_instance

theorem Rd_duties (c : Dev nD) (k : CK) (r : ℕ) : (Rd (F := F) m).duties (cellAt c k) r = duties (some k) r := by
  show duties (ckOf (csem k)) r = _
  rw [ckOf_csem]

theorem Rd_amount (c : Dev nD) (k : CK) (r : ℕ) (d : Bool) : (Rd (F := F) m).amount (cellAt c k) r d = units (some k) := by
  show units (ckOf (csem k)) = _
  rw [ckOf_csem]

theorem Rd_payload (c : Dev nD) (k : CK) (r : ℕ) (d : Bool) : (Rd (F := F) m).payload (cellAt c k) r d = pay m c k r := by
  show payO m c (ckOf (csem k)) r = _
  rw [ckOf_csem]; rfl

/-- A cell other than the barrier has one duty in each of its rounds. -/
theorem duties_one {k : CK} (hk : k ≠ .bar) {r : ℕ} (hr : r < rounds k) : duties (some k) r = {false} := by
  cases k <;> first | exact absurd rfl hk | exact if_pos hr

theorem mem_duties (c : Dev nD) {k : CK} (hk : k ≠ .bar) {r : ℕ} (hr : r < rounds k) :
    false ∈ (Rd (F := F) m).duties (cellAt c k) r := by
  rw [Rd_duties, duties_one hk hr]; exact Finset.mem_singleton_self _

theorem expect_one (c : Dev nD) {k : CK} (hk : k ≠ .bar) {r : ℕ} (hr : r < rounds k) :
    (Rd (F := F) m).expect (cellAt c k) r = units (some k) := by
  unfold Schedule.expect Schedule.amountOf
  rw [Rd_duties, duties_one hk hr, Finset.sum_singleton, Rd_amount]

theorem rest_one (c : Dev nD) {k : CK} (hk : k ≠ .bar) {r : ℕ} (hr : r < rounds k) :
    bigSep ((Rd (F := F) m).duties (cellAt c k) r \ ∅) (fun d => (Rd (F := F) m).payload (cellAt c k) r d) = pay m c k r := by
  rw [Finset.sdiff_empty, Rd_duties, duties_one hk hr, bigSep_singleton, Rd_payload]

theorem mem_duties_bar (c : Dev nD) (d : Bool) : d ∈ (Rd (F := F) m).duties (cellAt c .bar) 0 := by
  rw [Rd_duties]; exact Finset.mem_univ _

theorem expect_bar (c : Dev nD) : (Rd (F := F) m).expect (cellAt c .bar) 0 = 2 := by
  unfold Schedule.expect Schedule.amountOf
  rw [Rd_duties, Finset.sum_congr rfl fun d _ => Rd_amount m c .bar 0 d]; rfl

/-- After a cell's rounds there is nothing left to pay. -/
theorem duties_after (c : Dev nD) (k : CK) (r : ℕ) (hr : rounds k ≤ r) : (Rd (F := F) m).duties (cellAt c k) r = ∅ := by
  rw [Rd_duties]
  cases k <;> exact if_neg (Nat.not_lt.mpr hr)

/-! ### The payments of a device, in program order -/

/-- A payment: the entry signal in a direction, or, for a pass, a direction and a step, a grant (`false`) or a block sent
    (`true`). -/
abbrev PK : Type := Bool ⊕ (Bool × Bool × Bool × Fin 15)

/-- Whom device `c` pays; -/
def tgt : PK → Dev nD → Dev nD
  | .inl d, c => nb d c
  | .inr (false, _, d, _), c => src d c
  | .inr (true, _, d, _), c => nb d c

/-- who pays device `c`; -/
def payer : PK → Dev nD → Dev nD
  | .inl d, c => src d c
  | .inr (false, _, d, _), c => nb d c
  | .inr (true, _, d, _), c => src d c

theorem tgt_payer (k : PK) (c : Dev nD) : tgt k (payer k c) = c := by
  rcases k with d | ⟨_ | _, g, d, s⟩
  · exact nb_src d c
  · exact src_nb d c
  · exact nb_src d c

theorem payer_tgt (k : PK) (c : Dev nD) : payer k (tgt k c) = c := by
  rcases k with d | ⟨_ | _, g, d, s⟩
  · exact src_nb d c
  · exact nb_src d c
  · exact src_nb d c

/-- to which cell; -/
def pcell : PK → CK
  | .inl _ => .bar
  | .inr (false, g, d, _) => .cr g d
  | .inr (true, g, d, s) => .sR g d (par s.val)

/-- in which of its rounds; -/
def pround : PK → ℕ
  | .inl _ => 0
  | .inr (false, _, _, s) => s.val
  | .inr (true, _, _, s) => s.val / 2

/-- by which duty; -/
def pduty : PK → Bool
  | .inl d => d
  | .inr _ => false

/-- under which index; -/
def pidx : PK → ℕ
  | .inl _ => 0
  | .inr (_, _, _, s) => s.val

/-- how much; -/
def pamt (k : PK) : ℕ := units (some (pcell k))

/-- as which of the payments. A reducing step grants and then sends, first rightwards and then leftwards; a gathering step
    sends both ways and then grants both ways. -/
def posN (b g d : Bool) : ℕ → ℕ
  | 0 => match b, g with
    | false, false => 3 + d.toNat
    | false, true => 5 + d.toNat
    | true, false => 7 + d.toNat
    | true, true => 65 + d.toNat
  | s + 1 => match b, g with
    | false, false => 9 + 4 * s + 2 * d.toNat
    | true, false => 10 + 4 * s + 2 * d.toNat
    | false, true => 67 + 4 * s + d.toNat
    | true, true => 69 + 4 * s + d.toNat

def pos : PK → ℕ
  | .inl d => 2 - d.toNat
  | .inr (b, g, d, s) => posN b g d s.val

theorem pos_injective : Function.Injective pos := by
  have h : ∀ a b : PK, pos a = pos b → a = b := by decide +kernel
  exact fun a b => h a b

theorem pos_lt (k : PK) : 0 < pos k ∧ pos k < 123 := by revert k; decide +kernel

/-- The tally of a payment of device `c`. -/
def tally (c : Dev nD) (k : PK) : CellTallies nD τ sig ℕ := tallyAt (cellAt (tgt k c) (pcell k)) (pidx k) (pamt k)

/-- What device `c` owes from its `p`-th payment on. -/
def owed (c : Dev nD) (p : ℕ) : CellTallies nD τ sig ℕ := ∑ k : PK with p ≤ pos k, tally c k

theorem owed_peel (c : Dev nD) (k : PK) : owed c (pos k) = owed c (pos k + 1) + tally c k := by
  unfold owed
  rw [show (Finset.univ.filter fun k' : PK => pos k ≤ pos k') = insert k (Finset.univ.filter fun k' : PK => pos k + 1 ≤ pos k') by
    ext k'
    simp only [Finset.mem_insert, Finset.mem_filter, Finset.mem_univ, true_and]
    constructor
    · intro h
      rcases Nat.eq_or_lt_of_le h with h | h
      · exact .inl (pos_injective h.symm)
      · exact .inr h
    · rintro (rfl | h)
      · exact le_rfl
      · omega]
  rw [Finset.sum_insert (by simp), add_comm]

theorem owed_end (c : Dev nD) {p : ℕ} (hp : 123 ≤ p) : owed c p = 0 := by
  unfold owed
  rw [Finset.filter_false_of_mem fun k _ h => absurd (pos_lt k).2 (by omega), Finset.sum_empty]

theorem owed_zero (c : Dev nD) : owed c 0 = ∑ k : PK, tally c k := by
  unfold owed; rw [Finset.filter_true_of_mem fun _ _ => Nat.zero_le _]

theorem owed_one (c : Dev nD) : owed c 1 = owed c 0 := by
  unfold owed
  rw [Finset.filter_true_of_mem (p := fun k : PK => 1 ≤ pos k) fun k _ => (pos_lt k).1, Finset.filter_true_of_mem fun _ _ => Nat.zero_le _]

/-- The indices of a cell. -/
def L (g : GSem nD τ sig) : Finset ℕ := if g.1.2 = .tc then Finset.range 16 else ∅

/-- The level of a cell at an index. -/
def lvOf : Option CK → ℕ → ℕ
  | some .bar, _ => 1
  | some (.cr g d), s => posN false g d s
  | some (.sR g d _), s => posN true g d s
  | _, _ => 0

def lv (g : GSem nD τ sig) (i : ℕ) : ℕ := lvOf (ckOf g.2) i

theorem L_of_ne (g : GSem nD τ sig) (h : g.1.2 ≠ .tc) : L g = ∅ := if_neg h
theorem L_tc (c : Dev nD) (sm : SemLoc sig) : L ((c : Thread nD τ), sm) = Finset.range 16 := if_pos rfl

theorem lv_cell (c : Dev nD) (k : CK) (i : ℕ) : lv (cellAt c k) i = lvOf (some k) i := by
  show lvOf (ckOf (csem k)) i = _
  rw [ckOf_csem]

theorem pidx_lt (k : PK) : pidx k < 16 := by
  rcases k with d | ⟨b, g, d, s⟩
  · exact Nat.zero_lt_succ _
  · exact Nat.lt_of_lt_of_le s.isLt (by decide)

/-- What is owed is owed by some payment. -/
theorem owed_pos {c : Dev nD} {p : ℕ} {g : GSem nD τ sig} {i : ℕ} (h : 0 < owed c p g i) :
    ∃ k : PK, p ≤ pos k ∧ g = cellAt (tgt k c) (pcell k) ∧ i = pidx k := by
  unfold owed at h
  obtain ⟨k, hk, h⟩ := Pipeline.sum_pos_exists h
  refine ⟨k, (Finset.mem_filter.mp hk).2, ?_⟩
  unfold tally at h
  rw [tallyAt_apply] at h
  by_contra hn
  rw [if_neg hn] at h
  exact absurd h (Nat.lt_irrefl 0)

/-- A wait whose level is below all that is owed is allowed. -/
theorem mayWait_lt (c : Dev nD) (sm : SemLoc sig) {i p : ℕ} (hi : i < 16)
    (h : ∀ k : PK, p ≤ pos k → lv ((c : Thread nD τ), sm) i < lvOf (some (pcell k)) (pidx k)) :
    (levAts L lv : sProp 𝕄) ⊢ MayWait (c : Thread nD τ) sm i (owed c p) := by
  refine Pipeline.mayWait_of_levAts (by rw [L_tc]; exact Finset.mem_range.mpr hi) fun g j hg => ?_
  obtain ⟨k, hk, rfl, rfl⟩ := owed_pos hg
  refine ⟨by rw [cellAt, L_tc]; exact Finset.mem_range.mpr (pidx_lt k), ?_⟩
  rw [lv_cell]
  exact h k hk

theorem lvOf_pay (k : PK) : lvOf (some (pcell k)) (pidx k) = match k with | .inl _ => 1 | .inr _ => pos k := by
  rcases k with d | ⟨_ | _, g, d, s⟩ <;> rfl

/-- Past the entry signals the level of a wait need only be below the next payment's number. -/
theorem mayWait_cell (c : Dev nD) (k : CK) {i p : ℕ} (hi : i < 16) (hp : 3 ≤ p) (h : lvOf (some k) i < p) :
    (levAts L lv : sProp 𝕄) ⊢ MayWait (c : Thread nD τ) (csem k) i (owed c p) := by
  refine mayWait_lt c (csem k) hi fun k' hk' => ?_
  have e : lv ((c : Thread nD τ), csem k) i = lvOf (some k) i := lv_cell c k i
  rw [e, lvOf_pay]
  rcases k' with d | x
  · have : pos (.inl d) ≤ 2 := Nat.sub_le _ _
    omega
  · exact Nat.lt_of_lt_of_le h hk'

end Cert.Proof

end
-- ==== Proof.Memory.lean ====
/-
  What the loads, stores and transfers of the kernel do to the slots and to the result's blocks.
-/
module

public import proofs.«01_k».proof.Proof.Cells

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

variable (m : (ℓ : Loc nD τ sig) → Buf (Elt F) ℓ)

/-- A slot's rectangle of its buffer. -/
abbrev slotAcc (g d : Bool) (k : Fin 2) : View sig .tc .vmem S1x512x2048 .f32 :=
  (bufM g d).access (Rect.unit (s := S2x512x2048) ![k.val, 0, 0] S1x512x2048.size (slot_inb k))

theorem slot_set (g d : Bool) (k : Fin 2) : (slot (bufM g d) k).view.set = (slotAcc g d k).set :=
  View.set_reshape (v := slotAcc g d k) (s' := S512x2048) (by decide)

/-- Two full writes through one view agree under it. -/
theorem write_agree {sp : Space} {s : Shape} {e : EltTy} (v : View sig .tc sp s e) (f f' : v.ty.Contents (Elt F))
    (w : s.Idx → Elt F e) : ∀ i ∈ v.set, v.write (Elt F) f w Finset.univ i = v.write (Elt F) f' w Finset.univ i := by
  intro i hi
  obtain ⟨x, -, rfl⟩ := Finset.mem_map.mp hi
  rw [View.write_emb_of_mem _ _ (Finset.mem_univ _), View.write_emb_of_mem _ _ (Finset.mem_univ _)]

/-- A filled slot is read back; -/
theorem slot_readAt (g d : Bool) (c : Dev nD) (k : Fin 2) (t : FVec F S1x512x2048 .f32) :
    (slotAcc g d k).read (Elt F) (slotFill m g d c k t) = t := by
  unfold slotFill
  exact View.read_write_univ _ _

/-- as a block. -/
theorem slot_read (g d : Bool) (c : Dev nD) (k : Fin 2) (t : FVec F S1x512x2048 .f32) :
    (slot (bufM g d) k).view.read (Elt F) (slotFill m g d c k t) = ofSlot t := by
  funext x
  have h := congrFun (slot_readAt m g d c k t) (Shape.reshapeEquiv (s := S1x512x2048) (s' := S512x2048) (by decide) x)
  exact h

/-- A store fills a slot; -/
theorem slot_write (g d : Bool) (c : Dev nD) (k : Fin 2) (t : FVec F S1x512x2048 .f32)
    (f : Buf (Elt F) ((slot (bufM g d) k).view.loc (c : Thread nD τ))) :
    ((slot (bufM g d) k).view.loc (c : Thread nD τ) ↦[(slot (bufM g d) k).view.set]{fullShare}
      (slotAcc g d k).write (Elt F) f t Finset.univ : sProp 𝕄) = slotPts m g d c k fullShare t := by
  unfold slotPts slotFill
  rw [slot_set]
  exact pointsTo_congr (write_agree (slotAcc g d k) _ _ t)

/-- so does the arrival of a block. -/
theorem slot_land (g d : Bool) (c : Dev nD) (k : Fin 2) (t : FVec F S1x512x2048 .f32)
    (f : Buf (Elt F) ((slot (bufM g d) k).view.loc (c : Thread nD τ))) :
    ((slot (bufM g d) k).view.loc (c : Thread nD τ) ↦[(slot (bufM g d) k).view.set]{fullShare}
      (slot (bufM g d) k).view.write (Elt F) f (ofSlot t) Finset.univ : sProp 𝕄) = slotPts m g d c k fullShare t := by
  have e : (slot (bufM g d) k).view.write (Elt F) f (ofSlot t) Finset.univ = (slotAcc g d k).write (Elt F) f t Finset.univ := by
    refine (View.write_reshape_univ (v := slotAcc g d k) (s' := S512x2048) _ f (ofSlot t)).trans ?_
    congr 1
    funext x
    show t (Shape.reshapeEquiv _ ((Shape.reshapeEquiv _).symm x)) = t x
    rw [Equiv.apply_symm_apply]
  rw [e, slot_write]

theorem slotPts_any (g d : Bool) (c : Dev nD) (k : Fin 2) (t : FVec F S1x512x2048 .f32) :
    slotPts m g d c k fullShare t ⊢ (slotAny g d c k : sProp 𝕄) := by
  unfold slotPts slotAny
  iintro H
  iexists _
  iexact H

/-- A slot's two halves. -/
theorem slot_halves (g d : Bool) (c : Dev nD) (k : Fin 2) (t : FVec F S1x512x2048 .f32) :
    (slotPts m g d c k fullShare t : sProp 𝕄) ⊣⊢
      iprop(slotPts m g d c k fullShare.left t ∗ slotPts m g d c k fullShare.right t) := by
  unfold slotPts
  exact pointsTo_share (PosShare.mem_left_op_right fullShare)

theorem blk_val (n : Fin 16) : blk n.val = n := Fin.ext (Nat.mod_eq_of_lt n.isLt)

/-- Where an element of a stored block lies in the result. -/
def outIx (d : Bool) (c : Dev nD) (n : Fin 16) (x : S512x2048.Idx) : S8192x4096.Idx := (outB d c n).view.emb x

/-- What a device stores as its `n`-th block is the result there. -/
theorem outV_block (d : Bool) (c : Dev nD) (n : Fin 16) (x : S512x2048.Idx) :
    outV m (outIx d c n x) = ofSlot (gatV m d n.val c) x := by
  have h0 : (outIx d c n x 0).val = 512 * (nb d ((src d)^[n.val] c)).val + (x 0).val := by
    have e : (outIx d c n x 0).val = outOff d c n.val 0 + 1 * (x 0).val := rfl
    rw [e, outOff_eq, one_mul]; rfl
  have h1 : (outIx d c n x 1).val = lo d + (x 1).val := by
    have e : (outIx d c n x 1).val = outOff d c n.val 1 + 1 * (x 1).val := rfl
    rw [e, outOff_eq, one_mul]; rfl
  have b0 : (x 0).val < 512 := (x 0).isLt
  have b1 : (x 1).val < 2048 := (x 1).isLt
  have hd : decide (2048 ≤ (outIx d c n x 1).val) = d := by
    rw [h1]; cases d
    · exact decide_eq_false (by show ¬ 2048 ≤ 0 + (x 1).val; omega)
    · exact decide_eq_true (by show 2048 ≤ 2048 + (x 1).val; omega)
  unfold outV gatV
  rw [hd]
  have hj : (⟨(outIx d c n x 0).val / 512, Nat.div_lt_of_lt_mul (outIx d c n x 0).isLt⟩ : Dev nD)
      = nb d ((src d)^[n.val] c) := Fin.ext (by show _ / 512 = _; rw [h0]; omega)
  rw [hj, src_nb]
  congr 1
  funext a
  match a with
  | ⟨0, _⟩ => exact Fin.ext (by show _ % 512 = _; rw [h0]; show _ = (x 0).val; omega)
  | ⟨1, _⟩ => exact Fin.ext (by show _ % 2048 = (x 1).val; rw [h1]; cases d <;> simp only [lo] <;> omega)

/-- A block stored holds the result. -/
theorem out_land (d : Bool) (c : Dev nD) (n : Fin 16)
    (f : Buf (Elt F) ((outB d c n).view.loc (c : Thread nD τ))) :
    ((outB d c n).view.loc (c : Thread nD τ) ↦[(outB d c n).view.set]{fullShare}
      (outB d c n).view.write (Elt F) f (ofSlot (gatV m d n.val c)) Finset.univ : sProp 𝕄) = outPts m d c n.val := by
  unfold outPts outBuf
  rw [blk_val]
  refine pointsTo_congr fun i hi => ?_
  obtain ⟨x, -, rfl⟩ := Finset.mem_map.mp hi
  rw [View.write_emb_of_mem _ _ (Finset.mem_univ _)]
  exact (outV_block m d c n x).symm

end Cert.Proof

end
-- ==== Proof.Rules.lean ====
/-
  One rule for each piece of the kernel that signals, waits or moves a block: what it needs, and what it leaves for the
  rest of the program.
-/
module

public import proofs.«01_k».proof.Proof.Memory

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

abbrev 𝒱₀ : Variants := Variants.none

/-- The program `k` at device `c` ends in `Q`. -/
abbrev Runs (c : Dev nD) (k : Pg F PUnit) (Q : PUnit → sProp 𝕄) : sProp 𝕄 :=
  wp frame (wpE (defs₀ (F := F)) 𝒱₀ (c : Thread nD τ) none) Set.univ k Q

/-- What every device knows throughout: the cells' invariants, that each cell has reached its first round, the levels. -/
def env (K : Dev nD × CK → ℕ) : sProp 𝕄 :=
  iprop((bigSep Finset.univ fun p : Dev nD × CK =>
      iprop(cellInv ER (Rd m) (K p) (cellAt p.1 p.2) ∗ reached ER (cellAt p.1 p.2) 0))
    ∗ levAts L lv)

instance env_persistent (K : Dev nD × CK → ℕ) : BI.Persistent (env m K) := by unfold env; infer_instance

/-- A device's position in a cell of its own, and that the cell has got that far. -/
def at' (c : Dev nD) (k : CK) (r : ℕ) : sProp 𝕄 := iprop(atPos ER (cellAt c k) r ∅ 0 ∗ reached ER (cellAt c k) r)

/-- What a device still owes from its `p`-th payment on. -/
def owing (c : Dev nD) (p : ℕ) : sProp 𝕄 := iprop(∃ W, owes (c : Thread nD τ) (owed c p) W)

variable (K : Dev nD × CK → ℕ)

theorem env_inv (c : Dev nD) (k : CK) : env m K ⊢ cellInv ER (Rd m) (K (c, k)) (cellAt c k) :=
  (BI.sep_and.trans and_elimL).trans ((bigSep_elim (Finset.mem_univ (c, k))).trans (BI.sep_and.trans and_elimL))

theorem env_reached (c : Dev nD) (k : CK) : env m K ⊢ (reached ER (cellAt c k) 0 : sProp 𝕄) :=
  (BI.sep_and.trans and_elimL).trans ((bigSep_elim (Finset.mem_univ (c, k))).trans (BI.sep_and.trans and_elimR))

theorem env_wait (c : Dev nD) (k : CK) {i p : ℕ} (hi : i < 16) (hp : 3 ≤ p) (h : lvOf (some k) i < p) :
    env m K ⊢ (MayWait (c : Thread nD τ) (csem k) i (owed c p) : sProp 𝕄) := by
  unfold env
  iintro ⟨-, H⟩
  iapply (mayWait_cell c k hi hp h)
  iexact H

/-! ### Waits -/

/-- A wait for one round of a cell other than the barrier. -/
theorem wait_one (c : Dev nD) (k : CK) (hk : k ≠ .bar) {r i p : ℕ} (hr : r < rounds k) (hi : i < 16) (hp : 3 ≤ p)
    (h : lvOf (some k) i < p) {w : TpuEff nD τ sig (Elt F) Λ₀ .tc PUnit}
    (hw : ∀ Kt : PUnit → sProp 𝕄, wpE (defs₀ (F := F)) 𝒱₀ (c : Thread nD τ) none Set.univ w Kt
      = waitSpec (c : Thread nD τ) Set.univ (csem k) (units (some k)) Kt)
    {j : PUnit → Pg F PUnit} {Q : PUnit → sProp 𝕄} :
    iprop(env m K ∗ owing c p ∗ cred (tallyAt (cellAt c k) i (units (some k))) ∗ at' c k r)
      ⊢ iprop((owing c p ∗ at' c k (r + 1) ∗ pay m c k r -∗ Runs c (j ⟨⟩) Q) -∗ Runs c (.op w j) Q) := by
  unfold owing at'
  iintro ⟨#He, ⟨%W, HO⟩, Hc, Hat, -⟩ Hk
  iapply (Rounds.wp_wait_rest_token 𝒱₀ ER (Rd m) (c : Thread nD τ) none (κ := K (c, k)) hw (Set.mem_univ _) i
    (O := owed c p) (W := W) (R := r) (m := 0) (T := ∅)
    (by rw [Nat.zero_add]; exact (expect_one m c hk hr).symm)) $$ [HO Hc Hat]
  · isplitr; · iapply (env_inv m K c k); iexact He
    isplitl [Hc]; · iexact Hc
    isplitl [HO]; · iexact HO
    isplitr; · iapply (env_wait m K c k hi hp h); iexact He
    iexact Hat
  iintro ⟨HO, Hat, #Hr, Hpay⟩
  ihave Hp := (Entails.of_eq (rest_one m c hk hr)) $$ Hpay
  iapply Hk
  isplitl [HO]; · iexists _; iexact HO
  isplitl [Hat]
  · isplitl [Hat]; · iexact Hat
    iexact Hr
  iexact Hp

/-! ### Signals -/

theorem pduty_mem (x : PK) (t : Dev nD) : pduty x ∈ (Rd (F := F) m).duties (cellAt t (pcell x)) (pround x) := by
  rcases x with d | ⟨_ | _, g, d, s⟩
  · exact mem_duties_bar m t d
  · exact mem_duties m t (k := .cr g d) (fun h => by cases h) s.isLt
  · refine mem_duties m t (k := .sR g d (par s.val)) (fun h => by cases h) ?_
    show s.val / 2 < 8 - s.val % 2
    have := s.isLt
    omega

/-- A signal that makes a payment. -/
theorem pay_signal (c : Dev nD) (x : PK) (s : Sem sig) (hs : csem (pcell x) = .reg s) (hu : pamt x = 1)
    {k : Pg F PUnit} {Q : PUnit → sProp 𝕄} :
    iprop(env m K ∗ owing c (pos x) ∗ dutyTok ER (cellAt (tgt x c) (pcell x)) (pround x) (pduty x)
        ∗ pay m (tgt x c) (pcell x) (pround x) ∗ reached ER (cellAt (tgt x c) (pcell x)) (pround x))
      ⊢ iprop((owing c (pos x + 1) -∗ Runs c k Q) -∗ Runs c (signal (tgt x c) s k) Q) := by
  have e : (((tgt x c : Dev nD) : Thread nD τ), SemLoc.reg s) = cellAt (tgt x c) (pcell x) := by rw [cellAt, hs]
  have h1 : (1#32 : BitVec 32).toInt = ((1 : ℕ) : ℤ) := by decide
  unfold owing
  iintro ⟨#He, ⟨%W, HO⟩, Ht, Hp, #Hr⟩ Hk
  unfold signal
  rw [h1]
  iapply (Rounds.wp_signal 𝒱₀ ER (Rd m) (c : Thread nD τ) none (dst := (tgt x c : Thread nD τ))
    (sem := s) (κ := K (tgt x c, pcell x)) (r := pround x) (d := pduty x) (k' := 1)
    (by rw [e]; exact pduty_mem m x (tgt x c))
    (by rw [e, Rd_amount]; exact hu) (pidx x) (O₀ := owed c (pos x)) (owed c (pos x + 1))
    (by rw [e, owed_peel, tally, hu])) $$ [HO Ht Hp]
  · rw [e, Rd_payload]
    isplitr; · iapply (env_inv m K (tgt x c) (pcell x)); iexact He
    isplitl [HO]; · iexact HO
    isplitl [Ht]; · iexact Ht
    isplitl [Hp]; · iexact Hp
    iexact Hr
  iintro HO
  iapply Hk
  iexists _; iexact HO

/-- The neighbours are met: both have been signalled, and both have signalled. -/
theorem run_meet (c : Dev nD) (k : Pg F PUnit) (Q : PUnit → sProp 𝕄) :
    iprop(env m K ∗ owing c 0 ∗ dutyTok ER (cellAt (nb true c) .bar) 0 true ∗ dutyTok ER (cellAt (nb false c) .bar) 0 false
        ∗ cred (tallyAt (cellAt c .bar) 0 2) ∗ atPos ER (cellAt c .bar) 0 ∅ 0)
      ⊢ iprop((owing c 3 ∗ atPos ER (cellAt c .bar) 1 ∅ 0 -∗ Runs c k Q) -∗ Runs c (meet c k) Q) := by
  unfold owing
  iintro ⟨#He, ⟨%W, HO⟩, Ht, Hf, Hc, Hat⟩ Hk
  unfold meet
  iapply (pay_signal m K c (.inl true) barrier rfl rfl) $$ [HO Ht]
  · isplitr; · iexact He
    isplitl [HO]; · unfold owing; rw [← owed_one c]; iexists W; iexact HO
    isplitl [Ht]; · iexact Ht
    isplitr; · unfold pay; iempintro
    iapply (env_reached m K (nb true c) .bar); iexact He
  iintro HO
  iapply (pay_signal m K c (.inl false) barrier rfl rfl) $$ [HO Hf]
  · isplitr; · iexact He
    isplitl [HO]; · iexact HO
    isplitl [Hf]; · iexact Hf
    isplitr; · unfold pay; iempintro
    iapply (env_reached m K (nb false c) .bar); iexact He
  iintro HO
  unfold owing
  icases HO with ⟨%W', HO⟩
  unfold wait
  iapply (Rounds.wp_wait_rest_token 𝒱₀ ER (Rd m) (c : Thread nD τ) none (κ := K (c, .bar))
      (wpE_semWait_eq 𝒱₀ (c : Thread nD τ) none Set.univ) (Set.mem_univ _) 0 (O := owed c 3) (W := W') (R := 0) (m := 0) (T := ∅)
      (by rw [Nat.zero_add]; exact (expect_bar m c).symm)) $$ [Hc HO Hat]
  · isplitr; · iapply (env_inv m K c .bar); iexact He
    isplitl [Hc]; · iexact Hc
    isplitl [HO]; · iexact HO
    isplitr; · iapply (env_wait m K c .bar (i := 0) (p := 3) (by decide) le_rfl (by decide)); iexact He
    iexact Hat
  iintro ⟨HO, Hat, -, -⟩
  iapply Hk
  isplitl [HO]; · iexists _; iexact HO
  iexact Hat

/-- A grant, of the slot the grant's step will fill. -/
theorem run_grant (g d : Bool) (c : Dev nD) (s : Fin 15) (p : ℕ) (hp : p = posN false g d s.val) (k : Pg F PUnit) (Q : PUnit → sProp 𝕄) :
    iprop(env m K ∗ owing c p ∗ dutyTok ER (cellAt (src d c) (.cr g d)) s.val false
        ∗ reached ER (cellAt (src d c) (.cr g d)) s.val
        ∗ slotAny g d c (dstP g (par s.val)) ∗ reached ER (cellAt c (.sR g d (par s.val))) (s.val / 2))
      ⊢ iprop((owing c (p + 1) -∗ Runs c k Q) -∗ Runs c (grant g d c k) Q) := by
  subst hp
  iintro ⟨#He, HO, Ht, #Hr, Hs, #Hr'⟩ Hk
  iapply (pay_signal m K c (.inr (false, g, d, s)) (credS g d) rfl rfl) $$ [HO Ht Hs]
  · isplitr; · iexact He
    isplitl [HO]; · iexact HO
    isplitl [Ht]; · iexact Ht
    isplitl [Hs]
    · dsimp only [tgt, pcell, pround, pay]
      rw [nb_src]
      isplitl [Hs]; · iexact Hs
      iexact Hr'
    iexact Hr
  iexact Hk

/-- The same for a wait for a transfer, whose amount is that of the buffer it lands in. -/
theorem wait_dma (c : Dev nD) (k : CK) (hk : k ≠ .bar) {r i p : ℕ} (hr : r < rounds k) (hi : i < 16) (hp : 3 ≤ p)
    (h : lvOf (some k) i < p) {sem : DmaSem sig} (hs : (.dma sem : SemLoc sig) = csem k) {sp sp' : Space} {s s' : Shape} {e e' : EltTy}
    {M : Memref sig .tc sp' s' e'} {M' : Memref sig .tc sp s e} {hM : M.view.WordExact} {hM' : M'.view.WordExact}
    (hn : M'.view.dmaCredit = units (some k))
    {j : PUnit → Pg F PUnit} {Q : PUnit → sProp 𝕄} :
    iprop(env m K ∗ owing c p ∗ cred (tallyAt (cellAt c k) i (units (some k))) ∗ at' c k r)
      ⊢ iprop((owing c p ∗ at' c k (r + 1) ∗ pay m c k r -∗ Runs c (j ⟨⟩) Q) -∗ Runs c (.op (.waitDma2 sem M M' hM hM') j) Q) :=
  wait_one m K c k hk hr hi hp h fun Kt => (wpE_waitDma2_eq 𝒱₀ (c : Thread nD τ) none Set.univ Kt).trans (by rw [hn, hs])

/-! ### Blocks sent, received and stored -/

theorem pay_sS (g d : Bool) (c : Dev nD) (s : ℕ) :
    pay m c (.sS g d (par s)) (s / 2) = slotPts m g d c (srcP g (par s)) (shareOf g) (sendV m g d s c) := by
  show slotPts m g d c (srcP g (par s)) (shareOf g) (sendV m g d (2 * (s / 2) + (par s).val) c) = _
  rw [half_eq]

theorem pay_sR (g d : Bool) (c : Dev nD) (s : ℕ) :
    pay m c (.sR g d (par s)) (s / 2) = iprop(slotPts m g d c (dstP g (par s)) fullShare (sendV m g d s (src d c))
      ∗ reached ER (cellAt (src d c) (.cr g d)) (s + 1)) := by
  show iprop(slotPts m g d c (dstP g (par s)) fullShare (sendV m g d (2 * (s / 2) + (par s).val) (src d c))
    ∗ reached ER (cellAt (src d c) (.cr g d)) (2 * (s / 2) + (par s).val + 1)) = _
  rw [half_eq]

theorem pay_st (d : Bool) (c : Dev nD) (n : ℕ) :
    pay m c (.st d (par n)) (n / 2) = iprop(outPts m d c n ∗ slotPts m true d c (par n) fullShare.left (gatV m d n c)) := by
  show iprop(outPts m d c (2 * (n / 2) + (par n).val)
    ∗ slotPts m true d c (par n) fullShare.left (gatV m d (2 * (n / 2) + (par n).val) c)) = _
  rw [half_eq]

theorem posN_lt (g d : Bool) (s : Fin 15) : 3 ≤ posN false g d s.val ∧ posN false g d s.val < posN true g d s.val := by
  revert g d s; decide +kernel

theorem step_rounds (s : Fin 15) : s.val / 2 < 8 - (par s.val).val := by
  show s.val / 2 < 8 - s.val % 2
  have := s.isLt
  omega

/-- Step `s`'s block is sent, once the neighbour has granted the slot it goes to. -/
theorem run_start (g d : Bool) (c : Dev nD) (s : Fin 15) (p : ℕ) (hp : p = posN true g d s.val) (k : Pg F PUnit) (Q : PUnit → sProp 𝕄) :
    iprop(env m K ∗ owing c p ∗ cred (tallyAt (cellAt c (.cr g d)) s.val 1) ∗ at' c (.cr g d) s.val
        ∗ dutyTok ER (cellAt c (.sS g d (par s.val))) (s.val / 2) false ∗ reached ER (cellAt c (.sS g d (par s.val))) (s.val / 2)
        ∗ dutyTok ER (cellAt (nb d c) (.sR g d (par s.val))) (s.val / 2) false
        ∗ slotPts m g d c (srcP g (par s.val)) (shareOf g) (sendV m g d s.val c))
      ⊢ iprop((owing c (p + 1) ∗ at' c (.cr g d) (s.val + 1) ∗ cred (tallyAt (cellAt c (.sS g d (par s.val))) 0 N)
          -∗ Runs c k Q) -∗ Runs c (start g d c s.val k) Q) := by
  have hc := posN_lt g d s
  iintro ⟨#He, HO, Hc, Hat, Ht, #Hr, Ht', Hs⟩ Hk
  unfold start wait
  iapply (wait_one m K c (.cr g d) (fun h => by cases h) (r := s.val) (i := s.val) (p := p) s.isLt
    (Nat.lt_of_lt_of_le s.isLt (by decide)) (by omega) (by rw [hp]; exact hc.2)
    (wpE_semWait_eq 𝒱₀ (c : Thread nD τ) none Set.univ)) $$ [HO Hc Hat]
  · isplitr; · iexact He
    isplitl [HO]; · iexact HO
    isplitl [Hc]; · iexact Hc
    iexact Hat
  unfold pay slotAny owing at'
  iintro ⟨⟨%W, HO⟩, ⟨Hat, #Hrc⟩, ⟨⟨%fd, Hd⟩, #Hr'⟩⟩
  unfold sendSlot slotPts
  iapply (Rounds.wp_send_pointsTo_with 𝒱₀ ER (Rd m) (c : Thread nD τ) none (c' := (nb d c : Thread nD τ))
    (κ₁ := K (c, .sS g d (par s.val))) (κ₂ := K (nb d c, .sR g d (par s.val))) (r₁ := s.val / 2) (r₂ := s.val / 2)
    (d₁ := false) (d₂ := false) (q := shareOf g)
    (fs := slotFill m g d c (srcP g (par s.val)) (sendV m g d s.val c)) (fd := fd) (F := iprop(reached ER (cellAt c (.cr g d)) (s.val + 1)))
    (mem_duties m c (k := .sS g d (par s.val)) (fun h => by cases h) (step_rounds s))
    (mem_duties m (nb d c) (k := .sR g d (par s.val)) (fun h => by cases h) (step_rounds s))
    s.val 0 N (slot_credit g d _) (Rd_amount m c (.sS g d (par s.val)) _ _) (Rd_amount m (nb d c) (.sR g d (par s.val)) _ _)
    (O₀ := owed c p) (owed c (p + 1)) (by rw [hp]; exact owed_peel c (.inr (true, g, d, s)))
    (by
      rw [show (Rd (F := F) m).payload _ _ _ = _ from Rd_payload m c (.sS g d (par s.val)) (s.val / 2) false]
      rw [pay_sS]; exact Entails.refl _)
    (by
      rw [show (Rd (F := F) m).payload _ _ _ = _ from Rd_payload m (nb d c) (.sR g d (par s.val)) (s.val / 2) false]
      rw [pay_sR, src_nb]
      exact Entails.of_eq (congrArg (fun P : sProp 𝕄 => iprop(P ∗ reached ER (cellAt c (.cr g d)) (s.val + 1)))
        ((congrArg _ (by rw [slot_read])).trans (slot_land m g d (nb d c) (dstP g (par s.val)) (sendV m g d s.val c) fd))))) $$ [HO Ht Ht' Hs Hd]
  · isplitr; · iapply (env_inv m K c (.sS g d (par s.val))); iexact He
    isplitr; · iapply (env_inv m K (nb d c) (.sR g d (par s.val))); iexact He
    isplitl [Hs]; · iexact Hs
    isplitl [Hd]
    · isplitl [Hd]; · iexact Hd
      iexact Hrc
    isplitl [HO]; · iexact HO
    isplitl [Ht]; · iexact Ht
    isplitr; · iexact Hr
    isplitl [Ht']; · iexact Ht'
    iexact Hr'
  iintro ⟨Hc, HO⟩
  iapply Hk
  isplitl [HO]; · iexists _; iexact HO
  isplitl [Hat]
  · isplitl [Hat]; · iexact Hat
    iexact Hrc
  iexact Hc

/-- Step `s`'s block has arrived; its sender has reached the round of the next grant. -/
theorem run_recv (g d : Bool) (c : Dev nD) (s : Fin 15) (p : ℕ) (hp : posN true g d s.val < p) (k : Pg F PUnit) (Q : PUnit → sProp 𝕄) :
    iprop(env m K ∗ owing c p ∗ cred (tallyAt (cellAt c (.sR g d (par s.val))) s.val N) ∗ at' c (.sR g d (par s.val)) (s.val / 2))
      ⊢ iprop((owing c p ∗ at' c (.sR g d (par s.val)) (s.val / 2 + 1)
            ∗ slotPts m g d c (dstP g (par s.val)) fullShare (sendV m g d s.val (src d c))
            ∗ reached ER (cellAt (src d c) (.cr g d)) (s.val + 1)
          -∗ Runs c k Q) -∗ Runs c (recv g d s.val k) Q) := by
  have hc := posN_lt g d s
  iintro ⟨#He, HO, Hc, Hat⟩ Hk
  unfold recv waitSlot
  iapply (wait_dma m K c (.sR g d (par s.val)) (fun h => by cases h) (hs := rfl) (M := slot (bufM g d) (srcP g (par s.val))) (hM := (View.wordExact_bits rfl).reshape _ _)
    (hM' := (View.wordExact_bits rfl).reshape _ _) (hn := slot_credit g d (dstP g (par s.val))) (r := s.val / 2) (i := s.val) (p := p) (step_rounds s)
    (Nat.lt_of_lt_of_le s.isLt (by decide)) (by omega) hp) $$ [HO Hc Hat]
  · isplitr; · iexact He
    isplitl [HO]; · iexact HO
    isplitl [Hc]; · iexact Hc
    iexact Hat
  rw [pay_sR]
  iintro ⟨HO, Hat, Hs, Hr⟩
  iapply Hk
  isplitl [HO]; · iexact HO
  isplitl [Hat]; · iexact Hat
  isplitl [Hs]; · iexact Hs
  iexact Hr

/-- Step `s`'s block has been sent. -/
theorem run_sent (g d : Bool) (c : Dev nD) (s : Fin 15) (p : ℕ) (hp : 3 ≤ p) (k : Pg F PUnit) (Q : PUnit → sProp 𝕄) :
    iprop(env m K ∗ owing c p ∗ cred (tallyAt (cellAt c (.sS g d (par s.val))) 0 N) ∗ at' c (.sS g d (par s.val)) (s.val / 2))
      ⊢ iprop((owing c p ∗ at' c (.sS g d (par s.val)) (s.val / 2 + 1)
            ∗ slotPts m g d c (srcP g (par s.val)) (shareOf g) (sendV m g d s.val c)
          -∗ Runs c k Q) -∗ Runs c (sent g d s.val k) Q) := by
  iintro ⟨#He, HO, Hc, Hat⟩ Hk
  unfold sent waitSlot
  iapply (wait_dma m K c (.sS g d (par s.val)) (fun h => by cases h) (hs := rfl) (M := slot (bufM g d) (dstP g (par s.val))) (hM := (View.wordExact_bits rfl).reshape _ _)
    (hM' := (View.wordExact_bits rfl).reshape _ _) (hn := slot_credit g d (srcP g (par s.val))) (r := s.val / 2) (i := 0) (p := p) (step_rounds s)
    (by decide) hp (Nat.lt_of_lt_of_le (by decide : 0 < 3) hp)) $$ [HO Hc Hat]
  · isplitr; · iexact He
    isplitl [HO]; · iexact HO
    isplitl [Hc]; · iexact Hc
    iexact Hat
  rw [pay_sS]
  iintro ⟨HO, Hat, Hs⟩
  iapply Hk
  isplitl [HO]; · iexact HO
  isplitl [Hat]; · iexact Hat
  iexact Hs

theorem put_rounds (n : Fin 16) (k : Fin 2) (d : Bool) : n.val / 2 < rounds (.st d k) := by
  show n.val / 2 < 8
  have := n.isLt
  omega

/-- The store of the `n`-th block is started. -/
theorem run_putStart (d : Bool) (c : Dev nD) (n : Fin 16) (k : Pg F PUnit) (Q : PUnit → sProp 𝕄) :
    iprop(env m K ∗ dutyTok ER (cellAt c (.st d (par n.val))) (n.val / 2) false ∗ reached ER (cellAt c (.st d (par n.val))) (n.val / 2)
        ∗ slotPts m true d c (par n.val) fullShare.left (gatV m d n.val c) ∗ outAny d c n.val)
      ⊢ iprop((cred (tallyAt (cellAt c (.st d (par n.val))) 0 N) -∗ Runs c k Q) -∗ Runs c (putStart d c n k) Q) := by
  unfold outAny
  rw [blk_val]
  iintro ⟨#He, Ht, #Hr, Hs, ⟨%fd, Hd⟩⟩ Hk
  unfold putStart slotPts
  iapply (Rounds.wp_copy_pointsTo 𝒱₀ ER (Rd m) (c : Thread nD τ) none (κ := K (c, .st d (par n.val))) (r := n.val / 2) (d := false)
    (fd := fd) (q := fullShare.left) (fs := slotFill m true d c (par n.val) (gatV m d n.val c)) (mem_duties m c (k := .st d (par n.val)) (fun h => by cases h) (put_rounds n _ _)) 0 N (outB_credit d c n)
    (Rd_amount m c (.st d (par n.val)) _ _)
    (by
      rw [show (Rd (F := F) m).payload _ _ _ = _ from Rd_payload m c (.st d (par n.val)) (n.val / 2) false]
      rw [pay_st]
      exact Entails.of_eq (congrArg (fun P : sProp 𝕄 => iprop(P ∗ slotPts m true d c (par n.val) fullShare.left (gatV m d n.val c)))
        ((congrArg _ (by rw [slot_read])).trans (out_land m d c n fd))))) $$ [Ht Hs Hd]
  · isplitr; · iapply (env_inv m K c (.st d (par n.val))); iexact He
    isplitl [Hs]; · iexact Hs
    isplitl [Hd]; · iexact Hd
    isplitl [Ht]; · iexact Ht
    iexact Hr
  iexact Hk

/-- The `n`-th block has been stored. -/
theorem run_putWait (d : Bool) (c : Dev nD) (n : Fin 16) (p : ℕ) (hp : 3 ≤ p) (k : Pg F PUnit) (Q : PUnit → sProp 𝕄) :
    iprop(env m K ∗ owing c p ∗ cred (tallyAt (cellAt c (.st d (par n.val))) 0 N) ∗ at' c (.st d (par n.val)) (n.val / 2))
      ⊢ iprop((owing c p ∗ at' c (.st d (par n.val)) (n.val / 2 + 1) ∗ outPts m d c n.val
            ∗ slotPts m true d c (par n.val) fullShare.left (gatV m d n.val c)
          -∗ Runs c k Q) -∗ Runs c (putWait d c n k) Q) := by
  iintro ⟨#He, HO, Hc, Hat⟩ Hk
  unfold putWait
  iapply (wait_dma m K c (.st d (par n.val)) (fun h => by cases h) (hs := rfl) (M := slot (bufM true d) (par n.val)) (hM := (View.wordExact_bits rfl).reshape _ _)
    (hM' := View.wordExact_bits rfl) (hn := outB_credit d c n) (r := n.val / 2) (i := 0) (p := p) (put_rounds n _ _)
    (by decide) hp (Nat.lt_of_lt_of_le (by decide : 0 < 3) hp)) $$ [HO Hc Hat]
  · isplitr; · iexact He
    isplitl [HO]; · iexact HO
    isplitl [Hc]; · iexact Hc
    iexact Hat
  rw [pay_st]
  iintro ⟨HO, Hat, Ho, Hs⟩
  iapply Hk
  isplitl [HO]; · iexact HO
  isplitl [Hat]; · iexact Hat
  isplitl [Ho]; · iexact Ho
  iexact Hs

end Cert.Proof

end
-- ==== Proof.Compute.lean ====
/-
  One rule for each piece of the kernel that computes: what it reads, and what it leaves for the rest of the program.
-/
module

public import proofs.«01_k».proof.Proof.Rules

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

/-- The staged `x`; -/
abbrev xM : Memref sig .tc .vmem S8192x512 .f32 := Memref.whole cc0_stg0_0
/-- the staged `w`. -/
abbrev wM : Memref sig .tc .vmem S512x4096 .f32 := Memref.whole cc0_stg1_0

/-- The staged `x` holds the device's block; -/
def xPts (c : Dev nD) : sProp 𝕄 := ((c : Thread nD τ).loc cc0_stg0_0) ↦{fullShare} xs m c
/-- so does the staged `w`. -/
def wPts (c : Dev nD) : sProp 𝕄 := ((c : Thread nD τ).loc cc0_stg1_0) ↦{fullShare} ws m c

/-- The product's buffer, read and written whole. -/
abbrev accAcc (d : Bool) : View sig .tc .vmem S512x2048 .f32 :=
  (accM d).access (Rect.unit (s := S512x2048) ![0, 0] S512x2048.size inb_S512x2048_S512x2048_0_0)

/-- The product's buffer holds `t`; -/
def accPts (d : Bool) (c : Dev nD) (t : FVec F S512x2048 .f32) : sProp 𝕄 :=
  iprop(∃ f, ⌜(accAcc d).read (Elt F) f = t⌝ ∗ (accAcc d).loc (c : Thread nD τ) ↦[(accAcc d).set]{fullShare} f)

/-- it holds something. -/
def accAny (d : Bool) (c : Dev nD) : sProp 𝕄 := iprop(∃ t : FVec F S512x2048 .f32, accPts d c t)

theorem run_loadX (c : Dev nD) (o : Fin 2 → ℕ) (h : ∀ a, o a + S512x512.size a ≤ S8192x512.size a) (j : Fin 16)
    (e : o = ![512 * j.val, 0]) (k : Vec F S512x512 .f32 → Pg F PUnit) (Q : PUnit → sProp 𝕄) :
    xPts m c ⊢ iprop((xPts m c -∗ Runs c (k (rows (xs m c) j)) Q) -∗ Runs c (loadX xM o h k) Q) := by
  subst e
  unfold xPts loadX
  iintro H Hk
  iapply (wp_load 𝒱₀ (c : Thread nD τ) none Set.univ (m := xM) (S := Finset.univ) (Finset.subset_univ _)) $$ [H]
  · iexact H
  iexact Hk

theorem run_loadW (d : Bool) (c : Dev nD) (k : Vec F S512x2048 .f32 → Pg F PUnit) (Q : PUnit → sProp 𝕄) :
    wPts m c ⊢ iprop((wPts m c -∗ Runs c (k (cols (ws m c) d)) Q) -∗ Runs c (loadW wM d k) Q) := by
  unfold wPts loadW
  iintro H Hk
  iapply (wp_load 𝒱₀ (c : Thread nD τ) none Set.univ (m := wM) (S := Finset.univ) (Finset.subset_univ _)) $$ [H]
  · iexact H
  iexact Hk

theorem run_loadSlot (g d : Bool) (c : Dev nD) (p : Fin 2) (q : PosShare TreeShare) (t : FVec F S1x512x2048 .f32)
    (k : Vec F S1x512x2048 .f32 → Pg F PUnit) (Q : PUnit → sProp 𝕄) :
    slotPts m g d c p q t ⊢ iprop((slotPts m g d c p q t -∗ Runs c (k t) Q) -∗ Runs c (loadSlot (bufM g d) p k) Q) := by
  unfold slotPts loadSlot
  iintro H Hk
  iapply (wp_load_rect 𝒱₀ (c : Thread nD τ) none Set.univ (m := bufM g d)
    (r := Rect.unit (s := S2x512x2048) ![p.val, 0, 0] S1x512x2048.size (slot_inb p)) (hl := View.loadsAt_vmem h_S1x512x2048)
    (k := k) (Q := Q) (S := (slot (bufM g d) p).view.set) (f := slotFill m g d c p t) (slot_set g d p).ge) $$ [H]
  · iexact H
  rw [slot_readAt m g d c p t]
  iexact Hk

theorem run_loadAny (g d : Bool) (c : Dev nD) (p : Fin 2) (k : Vec F S1x512x2048 .f32 → Pg F PUnit) (Q : PUnit → sProp 𝕄) :
    slotAny g d c p ⊢ iprop((∀ t, slotAny g d c p -∗ Runs c (k t) Q) -∗ Runs c (loadSlot (bufM g d) p k) Q) := by
  unfold slotAny loadSlot
  iintro ⟨%f, H⟩ Hk
  iapply (wp_load_rect 𝒱₀ (c : Thread nD τ) none Set.univ (m := bufM g d)
    (r := Rect.unit (s := S2x512x2048) ![p.val, 0, 0] S1x512x2048.size (slot_inb p)) (hl := View.loadsAt_vmem h_S1x512x2048)
    (k := k) (Q := Q) (S := (slot (bufM g d) p).view.set) (f := f) (slot_set g d p).ge) $$ [H]
  · iexact H
  iintro H
  iapply Hk
  iexists _
  iexact H

theorem run_storeSlot (g d : Bool) (c : Dev nD) (p : Fin 2) (t : FVec F S1x512x2048 .f32) (k : Pg F PUnit) (Q : PUnit → sProp 𝕄) :
    slotAny g d c p ⊢ iprop((slotPts m g d c p fullShare t -∗ Runs c k Q) -∗ Runs c (storeSlot (bufM g d) p t k) Q) := by
  unfold slotAny storeSlot
  iintro ⟨%f, H⟩ Hk
  iapply (wp_store 𝒱₀ (c : Thread nD τ) none Set.univ (m := bufM g d)
    (r := Rect.unit (s := S2x512x2048) ![p.val, 0, 0] S1x512x2048.size (slot_inb p)) (Mk := Finset.univ)
    (S := (slot (bufM g d) p).view.set) (f := f) (slot_set g d p).ge) $$ [H]
  · iexact H
  iintro H
  iapply Hk
  iapply (Entails.of_eq (slot_write m g d c p t f))
  iexact H

theorem run_loadAcc (d : Bool) (c : Dev nD) (t : FVec F S512x2048 .f32) (k : Vec F S512x2048 .f32 → Pg F PUnit) (Q : PUnit → sProp 𝕄) :
    accPts d c t ⊢ iprop((accPts d c t -∗ Runs c (k t) Q) -∗ Runs c (loadAcc d k) Q) := by
  unfold accPts loadAcc
  iintro ⟨%f, %hf, H⟩ Hk
  subst hf
  iapply (wp_load_rect 𝒱₀ (c : Thread nD τ) none Set.univ (m := accM d)
    (r := Rect.unit (s := S512x2048) ![0, 0] S512x2048.size inb_S512x2048_S512x2048_0_0) (S := (accAcc d).set) (f := f) (Finset.Subset.refl _)) $$ [H]
  · iexact H
  iintro H
  iapply Hk
  iexists f
  isplitr; · ipureintro; rfl
  iexact H

theorem run_storeAcc (d : Bool) (c : Dev nD) (t : FVec F S512x2048 .f32) (k : Pg F PUnit) (Q : PUnit → sProp 𝕄) :
    accAny d c ⊢ iprop((accPts d c t -∗ Runs c k Q) -∗ Runs c (storeAcc d t k) Q) := by
  unfold accAny accPts storeAcc
  iintro ⟨%t', %f, -, H⟩ Hk
  iapply (wp_store 𝒱₀ (c : Thread nD τ) none Set.univ (m := accM d)
    (r := Rect.unit (s := S512x2048) ![0, 0] S512x2048.size inb_S512x2048_S512x2048_0_0) (Mk := Finset.univ) (S := (accAcc d).set) (f := f)
    (Finset.Subset.refl _)) $$ [H]
  · iexact H
  iintro H
  iapply Hk
  iexists _
  isplitr
  rotate_left
  · iexact H
  ipureintro
  exact View.read_write_univ _ _

/-- The device's own block is put into slot 1. -/
theorem run_first (d : Bool) (c : Dev nD) (k : Pg F PUnit) (Q : PUnit → sProp 𝕄) :
    iprop(xPts m c ∗ wPts m c ∗ slotAny false d c 1)
      ⊢ iprop((xPts m c ∗ wPts m c ∗ slotPts m false d c 1 fullShare (sumV m d 0 c) -∗ Runs c k Q) -∗ Runs c (first xM wM d c k) Q) := by
  iintro ⟨Hx, Hw, Hs⟩ Hk
  unfold first
  iapply (run_loadX m c _ _ (chunk d c 0) (off1_chunk d c)) $$ [Hx]
  · iexact Hx
  iintro Hx
  iapply (run_loadW m d c) $$ [Hw]
  · iexact Hw
  iintro Hw
  iapply (run_loadAny false d c 1) $$ [Hs]
  · iexact Hs
  iintro %t Hs
  iapply (run_storeSlot m false d c 1) $$ [Hs]
  · iexact Hs
  iintro Hs
  iapply Hk
  isplitl [Hx]; · iexact Hx
  isplitl [Hw]; · iexact Hw
  unfold sumV prodV
  iexact Hs

/-- The step's own product is computed. -/
theorem run_rsDot (d : Bool) (c : Dev nD) (s : Fin 15) (k : Pg F PUnit) (Q : PUnit → sProp 𝕄) :
    iprop(xPts m c ∗ wPts m c ∗ accAny d c)
      ⊢ iprop((xPts m c ∗ wPts m c ∗ accPts d c (accV (prodV m d c (s.val + 1))) -∗ Runs c k Q) -∗ Runs c (rsDot xM wM d c s k) Q) := by
  iintro ⟨Hx, Hw, Hs⟩ Hk
  unfold rsDot
  iapply (run_loadX m c _ _ (chunk d c (s.val + 1)) (rsOff_chunk d c s)) $$ [Hx]
  · iexact Hx
  iintro Hx
  iapply (run_loadW m d c) $$ [Hw]
  · iexact Hw
  iintro Hw
  unfold accAny
  icases Hs with ⟨%t, Hs⟩
  iapply (run_loadAcc d c t) $$ [Hs]
  · iexact Hs
  iintro Hs
  iapply (run_storeAcc d c) $$ [Hs]
  · unfold accAny; iexists t; iexact Hs
  iintro Hs
  iapply Hk
  isplitl [Hx]; · iexact Hx
  isplitl [Hw]; · iexact Hw
  unfold accV prodV
  iexact Hs

/-- The step's product is added to the sum received. -/
theorem run_rsAdd (d : Bool) (c : Dev nD) (s : ℕ) (v : FVec F S1x512x2048 .f32) (a : FVec F S512x2048 .f32) (k : Pg F PUnit)
    (Q : PUnit → sProp 𝕄) :
    iprop(slotPts m false d c (par s) fullShare v ∗ accPts d c a)
      ⊢ iprop((slotPts m false d c (par s) fullShare (addV v a) ∗ accAny d c -∗ Runs c k Q) -∗ Runs c (rsAdd d s k) Q) := by
  iintro ⟨Hs, Ha⟩ Hk
  unfold rsAdd
  iapply (run_loadSlot m false d c (par s) fullShare v) $$ [Hs]
  · iexact Hs
  iintro Hs
  iapply (run_loadAcc d c a) $$ [Ha]
  · iexact Ha
  iintro Ha
  iapply (run_loadSlot m false d c (par s) fullShare v) $$ [Hs]
  · iexact Hs
  iintro Hs
  iapply (run_storeSlot m false d c (par s)) $$ [Hs]
  · iapply (slotPts_any m false d c (par s) v); iexact Hs
  iintro Hs
  iapply Hk
  isplitl [Hs]; · iexact Hs
  unfold accAny
  iexists a
  iexact Ha

/-- The activated block is put into slot 0 of the gathering pass. -/
theorem run_act (d : Bool) (c : Dev nD) (k : Pg F PUnit) (Q : PUnit → sProp 𝕄) :
    iprop(slotPts m false d c 0 fullShare (sumV m d 15 c) ∗ slotAny true d c 0)
      ⊢ iprop((slotPts m false d c 0 fullShare (sumV m d 15 c) ∗ slotPts m true d c 0 fullShare (ownV m d c) -∗ Runs c k Q)
          -∗ Runs c (act d k) Q) := by
  iintro ⟨Hs, Ha⟩ Hk
  unfold act
  iapply (run_loadSlot m false d c 0 fullShare (sumV m d 15 c)) $$ [Hs]
  · iexact Hs
  iintro Hs
  iapply (run_loadAny true d c 0) $$ [Ha]
  · iexact Ha
  iintro %t Ha
  iapply (run_storeSlot m true d c 0) $$ [Ha]
  · iexact Ha
  iintro Ha
  iapply Hk
  isplitl [Hs]; · iexact Hs
  unfold ownV
  iexact Ha

end Cert.Proof

end
-- ==== Proof.Steps.lean ====
/-
  The steps of the two passes: what a device holds of one direction between two steps, and that each step takes it on.
-/
module

public import proofs.«01_k».proof.Proof.Compute
public import Idealize.SL.BI.BigOpNat

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (K : Dev nD × CK → ℕ)

/-! ### What a device holds of one direction of a pass -/

/-- Both cells of a family indexed by parity, as they stand before step `s`. -/
def two (c : Dev nD) (f : Fin 2 → CK) (s : ℕ) : sProp 𝕄 :=
  iprop(at' c (f (par s)) (s / 2) ∗ at' c (f (par (s + 1))) ((s + 1) / 2))

/-- The next of the two: step `s` passes a round of the first, which is then the second one's. -/
theorem two_next (c : Dev nD) (f : Fin 2 → CK) (s : ℕ) :
    (two c f s : sProp 𝕄) ⊢ iprop(at' c (f (par s)) (s / 2) ∗ (at' c (f (par s)) (s / 2 + 1) -∗ two c f (s + 1))) := by
  unfold two
  rw [show s + 1 + 1 = s + 2 from rfl, par_succ (s + 1), par_succ s, other_other, Nat.add_div_right s (by decide)]
  iintro ⟨Ha, Hb⟩
  isplitl [Ha]; · iexact Ha
  iintro Ha
  isplitl [Hb]; · iexact Hb
  iexact Ha

/-- The tokens for what the device still grants, from step `s` on; -/
def gTok (g d : Bool) (c : Dev nD) (s : ℕ) : sProp 𝕄 :=
  bigSep (Finset.Ico s 15) fun i => dutyTok ER (cellAt (src d c) (.cr g d)) i false

/-- the tokens and credits for what it still sends; -/
def sItem (g d : Bool) (c : Dev nD) (i : ℕ) : sProp 𝕄 :=
  iprop(dutyTok ER (cellAt c (.sS g d (par i))) (i / 2) false ∗ dutyTok ER (cellAt (nb d c) (.sR g d (par i))) (i / 2) false
    ∗ cred (tallyAt (cellAt c (.cr g d)) i 1))
def sTok (g d : Bool) (c : Dev nD) (s : ℕ) : sProp 𝕄 := bigSep (Finset.Ico s 15) (sItem g d c)

/-- the credits for what it still receives; -/
def rTok (g d : Bool) (c : Dev nD) (s : ℕ) : sProp 𝕄 :=
  bigSep (Finset.Ico s 15) fun i => cred (tallyAt (cellAt c (.sR g d (par i))) i N)

/-- the tokens for what it still stores, with where it goes. -/
def pItem (d : Bool) (c : Dev nD) (n : ℕ) : sProp 𝕄 :=
  iprop(dutyTok ER (cellAt c (.st d (par n))) (n / 2) false ∗ outAny d c n)
def pTok (d : Bool) (c : Dev nD) (n : ℕ) : sProp 𝕄 := bigSep (Finset.Ico n 16) (pItem d c)

theorem gTok_next (g d : Bool) (c : Dev nD) {s : ℕ} (h : s < 15) :
    (gTok g d c s : sProp 𝕄) = iprop(dutyTok ER (cellAt (src d c) (.cr g d)) s false ∗ gTok g d c (s + 1)) :=
  bigSep_Ico_succ_bot h _
theorem sTok_next (g d : Bool) (c : Dev nD) {s : ℕ} (h : s < 15) :
    (sTok g d c s : sProp 𝕄) = iprop((dutyTok ER (cellAt c (.sS g d (par s))) (s / 2) false
      ∗ dutyTok ER (cellAt (nb d c) (.sR g d (par s))) (s / 2) false ∗ cred (tallyAt (cellAt c (.cr g d)) s 1))
      ∗ sTok g d c (s + 1)) :=
  bigSep_Ico_succ_bot h _
theorem rTok_next (g d : Bool) (c : Dev nD) {s : ℕ} (h : s < 15) :
    (rTok g d c s : sProp 𝕄) = iprop(cred (tallyAt (cellAt c (.sR g d (par s))) s N) ∗ rTok g d c (s + 1)) :=
  bigSep_Ico_succ_bot h _
theorem pTok_next (d : Bool) (c : Dev nD) {n : ℕ} (h : n < 16) :
    (pTok d c n : sProp 𝕄) = iprop((dutyTok ER (cellAt c (.st d (par n))) (n / 2) false ∗ outAny d c n) ∗ pTok d c (n + 1)) :=
  bigSep_Ico_succ_bot h _

theorem gTok_end (g d : Bool) (c : Dev nD) {s : ℕ} (h : 15 ≤ s) : emp ⊢ (gTok g d c s : sProp 𝕄) := by
  unfold gTok; rw [Finset.Ico_eq_empty (by omega)]; exact Entails.refl _
theorem sTok_end (g d : Bool) (c : Dev nD) {s : ℕ} (h : 15 ≤ s) : emp ⊢ (sTok g d c s : sProp 𝕄) := by
  unfold sTok; rw [Finset.Ico_eq_empty (by omega)]; exact Entails.refl _

theorem dst_next (g : Bool) (s : ℕ) : dstP g (par s) = srcP g (par (s + 1)) := by
  rw [par_succ]; cases g
  · exact (other_other _).symm
  · rfl
theorem src_next (g : Bool) (s : ℕ) : srcP g (par s) = dstP g (par (s + 1)) := by
  rw [par_succ]; cases g
  · rfl
  · exact (other_other _).symm

/-- What is common to every moment of a pass. -/
def base (g d : Bool) (c : Dev nD) (s : ℕ) : sProp 𝕄 :=
  iprop(two c (.sS g d) s ∗ two c (.sR g d) s ∗ rTok g d c s)

/-! ### A step of the reducing pass -/

/-- Before reducing step `s`, one direction: its block is on its way; after the last, the device holds its reduced block. -/
def rsSt (d : Bool) (c : Dev nD) (s : ℕ) : sProp 𝕄 :=
  iprop(base false d c s ∗ gTok false d c (s + 1) ∗ sTok false d c (s + 1)
    ∗ if s < 15 then iprop(at' c (.cr false d) (s + 1) ∗ cred (tallyAt (cellAt c (.sS false d (par s))) 0 N))
      else iprop(at' c (.cr false d) 15 ∗ slotPts m false d c 0 fullShare (sumV m d 15 c) ∗ slotAny false d c 1))

theorem pos_rs (d : Bool) (s : Fin 15) :
    (posN true false d s.val < if s.val < 14 then 9 + 4 * s.val + 2 * d.toNat else 65) ∧ posN false false d (s.val + 1) = 9 + 4 * s.val + 2 * d.toNat
      ∧ posN true false d (s.val + 1) = 10 + 4 * s.val + 2 * d.toNat := by
  revert d s; decide +kernel

/-- One direction's half of reducing step `s`, at the device's `p`-th payment: up to the block received. -/
theorem run_rsHalf (d : Bool) (c : Dev nD) (s : Fin 15) (p : ℕ) (hp : p = if s.val < 14 then 9 + 4 * s.val + 2 * d.toNat else 65) (k : Pg F PUnit)
    (Q : PUnit → sProp 𝕄) :
    iprop(env m K ∗ owing c p ∗ rsSt m d c s.val ∗ accPts d c (accV (prodV m d c (s.val + 1))))
      ⊢ iprop((owing c (if s.val < 14 then p + 2 else p) ∗ rsSt m d c (s.val + 1) ∗ accAny d c -∗ Runs c k Q)
          -∗ Runs c (rsHalf d c s.val k) Q) := by
  obtain ⟨p1, p2, p3⟩ := pos_rs d s
  have hs := s.isLt
  have p4 : 3 ≤ p := by rw [hp]; split <;> omega
  rw [← hp] at p1
  unfold rsSt base rsHalf
  by_cases h : s.val < 14
  · rw [if_pos h] at hp
    have p2' : p = posN false false d (s.val + 1) := by omega
    have p3' : p + 1 = posN true false d (s.val + 1) := by omega
    rw [if_pos hs, if_pos h, if_pos h, if_pos (Nat.succ_lt_succ h : s.val + 1 < 15), rTok_next false d c hs,
      gTok_next false d c (s := s.val + 1) (Nat.succ_lt_succ h), sTok_next false d c (s := s.val + 1) (Nat.succ_lt_succ h)]
    iintro ⟨#He, HO, ⟨⟨HS, HR, Hr, HrT⟩, ⟨Ht, HgT⟩, ⟨⟨Ht1, Ht2, Hc2⟩, HsT⟩, ⟨Hat, Hc⟩⟩, Ha⟩ Hk
    ihave HS' := (two_next c (.sS false d) s.val) $$ HS
    icases HS' with ⟨HS, HSk⟩
    ihave HR' := (two_next c (.sR false d) s.val) $$ HR
    icases HR' with ⟨HR, HRk⟩
    iapply (run_recv m K false d c s p (by omega)) $$ [HO Hr HR]
    · isplitr; · iexact He
      isplitl [HO]; · iexact HO
      isplitl [Hr]; · iexact Hr
      iexact HR
    iintro ⟨HO, HR, Hin, #Hg⟩
    ihave HR' := HRk $$ HR
    iapply (run_sent m K false d c s p (by omega)) $$ [HO Hc HS]
    · isplitr; · iexact He
      isplitl [HO]; · iexact HO
      isplitl [Hc]; · iexact Hc
      iexact HS
    iintro ⟨HO, HS, Hout⟩
    ihave HS' := HSk $$ HS
    unfold two at'
    icases HR' with ⟨⟨HR, #Hr1⟩, HRo⟩
    icases HS' with ⟨⟨HS, #Hr2⟩, HSo⟩
    iapply (run_grant m K false d c ⟨s.val + 1, Nat.succ_lt_succ h⟩ p p2') $$ [HO Ht Hout]
    · isplitr; · iexact He
      isplitl [HO]; · iexact HO
      isplitl [Ht]; · iexact Ht
      isplitr; · iexact Hg
      isplitl [Hout]
      · iapply (slotPts_any m false d c (dstP false (par (s.val + 1))) (sendV m false d s.val c))
        rw [← src_next]
        iexact Hout
      iexact Hr1
    iintro HO
    iapply (run_rsAdd m d c s.val (sumV m d s.val (src d c)) (accV (prodV m d c (s.val + 1)))) $$ [Hin Ha]
    · isplitl [Hin]; · iexact Hin
      iexact Ha
    iintro ⟨Hin, Ha⟩
    iapply (run_start m K false d c ⟨s.val + 1, Nat.succ_lt_succ h⟩ (p + 1) p3') $$ [HO Hc2 Hat Ht1 Ht2 Hin]
    · isplitr; · iexact He
      isplitl [HO]; · iexact HO
      isplitl [Hc2]; · iexact Hc2
      isplitl [Hat]; · unfold at'; iexact Hat
      isplitl [Ht1]; · iexact Ht1
      isplitr; · iexact Hr2
      isplitl [Ht2]; · iexact Ht2
      rw [← dst_next]
      iexact Hin
    iintro ⟨HO, Hat, Hc⟩
    iapply Hk
    isplitl [HO]; · iexact HO
    isplitr [Ha]
    · isplitl [HS HSo HR HRo HrT]
      · isplitl [HS HSo]
        · isplitl [HS]
          · isplitl [HS]; · iexact HS
            iexact Hr2
          iexact HSo
        isplitl [HR HRo]
        · isplitl [HR]
          · isplitl [HR]; · iexact HR
            iexact Hr1
          iexact HRo
        iexact HrT
      isplitl [HgT]; · iexact HgT
      isplitl [HsT]; · iexact HsT
      isplitl [Hat]; · unfold at'; iexact Hat
      iexact Hc
    iexact Ha
  · have e : s.val = 14 := by omega
    rw [if_pos hs, if_neg h, if_neg h, if_neg (by omega : ¬ s.val + 1 < 15), rTok_next false d c hs]
    iintro ⟨#He, HO, ⟨⟨HS, HR, Hr, HrT⟩, -, -, ⟨Hat, Hc⟩⟩, Ha⟩ Hk
    ihave HS' := (two_next c (.sS false d) s.val) $$ HS
    icases HS' with ⟨HS, HSk⟩
    ihave HR' := (two_next c (.sR false d) s.val) $$ HR
    icases HR' with ⟨HR, HRk⟩
    iapply (run_recv m K false d c s p (by omega)) $$ [HO Hr HR]
    · isplitr; · iexact He
      isplitl [HO]; · iexact HO
      isplitl [Hr]; · iexact Hr
      iexact HR
    iintro ⟨HO, HR, Hin, #Hg⟩
    ihave HR' := HRk $$ HR
    iapply (run_sent m K false d c s p (by omega)) $$ [HO Hc HS]
    · isplitr; · iexact He
      isplitl [HO]; · iexact HO
      isplitl [Hc]; · iexact Hc
      iexact HS
    iintro ⟨HO, HS, Hout⟩
    ihave HS' := HSk $$ HS
    iapply (run_rsAdd m d c s.val (sumV m d s.val (src d c)) (accV (prodV m d c (s.val + 1)))) $$ [Hin Ha]
    · isplitl [Hin]; · iexact Hin
      iexact Ha
    iintro ⟨Hin, Ha⟩
    iapply Hk
    isplitl [HO]; · iexact HO
    isplitr [Ha]
    · isplitl [HS' HR' HrT]
      · isplitl [HS']; · iexact HS'
        isplitl [HR']; · iexact HR'
        iexact HrT
      rw [e]
      isplitr; · iapply (gTok_end false d c (by decide : 15 ≤ 14 + 1 + 1)); iempintro
      isplitr; · iapply (sTok_end false d c (by decide : 15 ≤ 14 + 1 + 1)); iempintro
      isplitl [Hat]; · iexact Hat
      isplitl [Hin]; · iexact Hin
      iapply (slotPts_any m false d c 1 (sendV m false d 14 c))
      iexact Hout
    iexact Ha

/-! ### A step of the gathering pass -/

/-- The blocks of the result stored so far. -/
def stored (d : Bool) (c : Dev nD) (n : ℕ) : sProp 𝕄 := bigSep (Finset.range n) (outPts m d c)

/-- Before gathering step `h`, one direction: the block the device holds is being stored, and one share of it is left to
    send; the slot it sends to is granted. After the last step the other slot has come back. -/
def agSt (d : Bool) (c : Dev nD) (h : ℕ) : sProp 𝕄 :=
  iprop(base true d c h ∗ gTok true d c (h + 1) ∗ sTok true d c h ∗ at' c (.cr true d) h
    ∗ slotPts m true d c (par h) fullShare.right (gatV m d h c)
    ∗ two c (.st d) h ∗ pTok d c (h + 1) ∗ cred (tallyAt (cellAt c (.st d (par h))) 0 N) ∗ stored m d c h
    ∗ if h < 15 then emp else slotAny true d c 0)

/-- with its block sent; -/
def agSent (d : Bool) (c : Dev nD) (h : ℕ) : sProp 𝕄 :=
  iprop(base true d c h ∗ gTok true d c (h + 1) ∗ sTok true d c (h + 1) ∗ at' c (.cr true d) (h + 1)
    ∗ cred (tallyAt (cellAt c (.sS true d (par h))) 0 N)
    ∗ two c (.st d) h ∗ pTok d c (h + 1) ∗ cred (tallyAt (cellAt c (.st d (par h))) 0 N) ∗ stored m d c h)

/-- with the next block received and being stored; -/
def agTaken (d : Bool) (c : Dev nD) (h : ℕ) : sProp 𝕄 :=
  iprop((two c (.sS true d) h ∗ two c (.sR true d) (h + 1) ∗ rTok true d c (h + 1)) ∗ gTok true d c (h + 1)
    ∗ sTok true d c (h + 1) ∗ at' c (.cr true d) (h + 1)
    ∗ cred (tallyAt (cellAt c (.sS true d (par h))) 0 N) ∗ reached ER (cellAt (src d c) (.cr true d)) (h + 1)
    ∗ slotPts m true d c (par (h + 1)) fullShare.right (gatV m d (h + 1) c)
    ∗ two c (.st d) h ∗ pTok d c (h + 2) ∗ cred (tallyAt (cellAt c (.st d (par h))) 0 N)
    ∗ cred (tallyAt (cellAt c (.st d (par (h + 1)))) 0 N) ∗ stored m d c h)

/-- with the block held before stored; -/
def agStored (d : Bool) (c : Dev nD) (h : ℕ) : sProp 𝕄 :=
  iprop((two c (.sS true d) h ∗ two c (.sR true d) (h + 1) ∗ rTok true d c (h + 1)) ∗ gTok true d c (h + 1)
    ∗ sTok true d c (h + 1) ∗ at' c (.cr true d) (h + 1)
    ∗ cred (tallyAt (cellAt c (.sS true d (par h))) 0 N) ∗ reached ER (cellAt (src d c) (.cr true d)) (h + 1)
    ∗ slotPts m true d c (par (h + 1)) fullShare.right (gatV m d (h + 1) c)
    ∗ slotPts m true d c (par h) fullShare.left (gatV m d h c)
    ∗ two c (.st d) (h + 1) ∗ pTok d c (h + 2)
    ∗ cred (tallyAt (cellAt c (.st d (par (h + 1)))) 0 N) ∗ stored m d c (h + 1))

/-- with its slot free again. -/
def agFree (d : Bool) (c : Dev nD) (h : ℕ) : sProp 𝕄 :=
  iprop(base true d c (h + 1) ∗ gTok true d c (h + 1)
    ∗ sTok true d c (h + 1) ∗ at' c (.cr true d) (h + 1) ∗ reached ER (cellAt (src d c) (.cr true d)) (h + 1)
    ∗ slotPts m true d c (par (h + 1)) fullShare.right (gatV m d (h + 1) c) ∗ slotAny true d c (par h)
    ∗ two c (.st d) (h + 1) ∗ pTok d c (h + 2)
    ∗ cred (tallyAt (cellAt c (.st d (par (h + 1)))) 0 N) ∗ stored m d c (h + 1))

theorem pos_ag (d : Bool) (h : Fin 15) :
    posN true true d h.val = 65 + 4 * h.val + d.toNat ∧ posN false true d (h.val + 1) = 67 + 4 * h.val + d.toNat := by
  revert d h; decide +kernel

theorem run_agStart (d : Bool) (c : Dev nD) (h : Fin 15) (p : ℕ) (hp : p = 65 + 4 * h.val + d.toNat) (k : Pg F PUnit)
    (Q : PUnit → sProp 𝕄) :
    iprop(env m K ∗ owing c p ∗ agSt m d c h.val)
      ⊢ iprop((owing c (p + 1) ∗ agSent m d c h.val -∗ Runs c k Q) -∗ Runs c (start true d c h.val k) Q) := by
  unfold agSt agSent base
  rw [sTok_next true d c h.isLt]
  iintro ⟨#He, HO, ⟨HS, HR, HrT⟩, HgT, ⟨⟨Ht1, Ht2, Hc2⟩, HsT⟩, Hat, Hs, Hrest⟩ Hk
  icases Hrest with ⟨Hst, HpT, Hc, Hd, -⟩
  unfold two at'
  icases HS with ⟨⟨HS, #Hr⟩, HSo⟩
  iapply (run_start m K true d c h p (hp.trans (pos_ag d h).1.symm)) $$ [HO Hc2 Hat Ht1 Ht2 Hs]
  · isplitr; · iexact He
    isplitl [HO]; · iexact HO
    isplitl [Hc2]; · iexact Hc2
    isplitl [Hat]; · unfold at'; iexact Hat
    isplitl [Ht1]; · iexact Ht1
    isplitr; · iexact Hr
    isplitl [Ht2]; · iexact Ht2
    iexact Hs
  iintro ⟨HO, Hat, Hc2⟩
  unfold at'
  iapply Hk
  iframe
  iframe #

theorem gatV_next (d : Bool) (h : ℕ) (c : Dev nD) : gatV m d h (src d c) = gatV m d (h + 1) c := rfl

theorem run_agTake (d : Bool) (c : Dev nD) (h : Fin 15) (p : ℕ) (hp : 66 + 4 * h.val + d.toNat ≤ p) (k : Pg F PUnit)
    (Q : PUnit → sProp 𝕄) :
    iprop(env m K ∗ owing c p ∗ agSent m d c h.val)
      ⊢ iprop((owing c p ∗ agTaken m d c h.val -∗ Runs c k Q) -∗ Runs c (agTake d c h k) Q) := by
  have hq := (pos_ag d h).1
  unfold agSent agTaken base agTake
  rw [rTok_next true d c h.isLt, pTok_next d c (n := h.val + 1) (Nat.succ_lt_succ h.isLt)]
  iintro ⟨#He, HO, ⟨HS, HR, Hr, HrT⟩, HgT, HsT, Hat, Hc, Hst, ⟨⟨Ht, Ho⟩, HpT⟩, Hcp, Hd⟩ Hk
  ihave HR' := (two_next c (.sR true d) h.val) $$ HR
  icases HR' with ⟨HR, HRk⟩
  iapply (run_recv m K true d c h p (by omega)) $$ [HO Hr HR]
  · iframe
    iexact He
  iintro ⟨HO, HR, Hin, #Hg⟩
  ihave HR' := HRk $$ HR
  ihave Hin2 : iprop(slotPts m true d c (par (h.val + 1)) fullShare.left (gatV m d (h.val + 1) c)
      ∗ slotPts m true d c (par (h.val + 1)) fullShare.right (gatV m d (h.val + 1) c)) $$ [Hin]
  · iapply (slot_halves m true d c (par (h.val + 1)) (gatV m d (h.val + 1) c)).1
    rw [par_succ]
    iexact Hin
  icases Hin2 with ⟨Hl, Hrt⟩
  unfold two at'
  icases Hst with ⟨Hst0, ⟨Hst, #Hrs⟩⟩
  iapply (run_putStart m K d c h.succ) $$ [Ht Hl Ho]
  · isplitr; · iexact He
    isplitl [Ht]; · iexact Ht
    isplitr; · iexact Hrs
    isplitl [Hl]; · iexact Hl
    iexact Ho
  iintro Hcn
  iapply Hk
  iframe HO HS HR' HrT HgT HsT Hat Hc Hrt Hst0 Hst HpT Hcp Hd
  isplitr; · iexact Hg
  isplitr; · iexact Hrs
  iexact Hcn

theorem run_agStore (d : Bool) (c : Dev nD) (h : Fin 15) (p : ℕ) (hp : 3 ≤ p) (k : Pg F PUnit)
    (Q : PUnit → sProp 𝕄) :
    iprop(env m K ∗ owing c p ∗ agTaken m d c h.val)
      ⊢ iprop((owing c p ∗ agStored m d c h.val -∗ Runs c k Q) -∗ Runs c (putWait d c h.castSucc k) Q) := by
  unfold agTaken agStored stored
  rw [bigSep_range_succ]
  iintro ⟨#He, HO, HB, HgT, HsT, Hat, Hc, #Hg, Hs, Hst, HpT, Hcp, Hcn, Hd⟩ Hk
  ihave Hst' := (two_next c (.st d) h.val) $$ Hst
  icases Hst' with ⟨Hst, Hstk⟩
  iapply (run_putWait m K d c h.castSucc p hp) $$ [HO Hcp Hst]
  · isplitr; · iexact He
    isplitl [HO]; · iexact HO
    isplitl [Hcp]; · iexact Hcp
    iexact Hst
  simp only [Fin.val_castSucc]
  iintro ⟨HO, Hst, Ho, Hl⟩
  ihave Hst' := Hstk $$ Hst
  iapply Hk
  iframe HO HB HgT HsT Hat Hc Hs Hst' HpT Hcn Hd
  isplitr; · iexact Hg
  isplitl [Hl]; · iexact Hl
  iexact Ho

theorem run_agSent (d : Bool) (c : Dev nD) (h : Fin 15) (p : ℕ) (hp : 3 ≤ p) (k : Pg F PUnit)
    (Q : PUnit → sProp 𝕄) :
    iprop(env m K ∗ owing c p ∗ agStored m d c h.val)
      ⊢ iprop((owing c p ∗ agFree m d c h.val -∗ Runs c k Q) -∗ Runs c (sent true d h.val k) Q) := by
  unfold agStored agFree base
  iintro ⟨#He, HO, ⟨HS, HR, HrT⟩, HgT, HsT, Hat, Hc, #Hg, Hs, Hl, Hst, HpT, Hcn, Hd⟩ Hk
  ihave HS' := (two_next c (.sS true d) h.val) $$ HS
  icases HS' with ⟨HS, HSk⟩
  iapply (run_sent m K true d c h p hp) $$ [HO Hc HS]
  · iframe
    iexact He
  iintro ⟨HO, HS, Hr⟩
  ihave HS' := HSk $$ HS
  iapply Hk
  iframe HO HS' HR HrT HgT HsT Hat Hs Hst HpT Hcn Hd
  isplitr; · iexact Hg
  iapply (slotPts_any m true d c (par h.val) (gatV m d h.val c))
  iapply (slot_halves m true d c (par h.val) (gatV m d h.val c)).2
  isplitl [Hl]; · iexact Hl
  iexact Hr

theorem run_agGrant (d : Bool) (c : Dev nD) (h : Fin 15) (hh : h.val < 14) (p : ℕ) (hp : p = 67 + 4 * h.val + d.toNat) (k : Pg F PUnit)
    (Q : PUnit → sProp 𝕄) :
    iprop(env m K ∗ owing c p ∗ agFree m d c h.val)
      ⊢ iprop((owing c (p + 1) ∗ agSt m d c (h.val + 1) -∗ Runs c k Q) -∗ Runs c (grant true d c k) Q) := by
  unfold agFree agSt base
  rw [gTok_next true d c (s := h.val + 1) (Nat.succ_lt_succ hh), if_pos (Nat.succ_lt_succ hh : h.val + 1 < 15)]
  iintro ⟨#He, HO, ⟨HS, HR, HrT⟩, ⟨Ht, HgT⟩, HsT, Hat, #Hg, Hs, Hf, Hst, HpT, Hcn, Hd⟩ Hk
  ihave HR' : iprop(two c (.sR true d) (h.val + 1) ∗ reached ER (cellAt c (.sR true d (par (h.val + 1)))) ((h.val + 1) / 2)) $$ [HR]
  · unfold two at'
    icases HR with ⟨⟨HR, #Hr1⟩, HRo⟩
    iframe HR HRo
    isplitr <;> iexact Hr1
  icases HR' with ⟨HR, #Hr⟩
  iapply (run_grant m K true d c ⟨h.val + 1, Nat.succ_lt_succ hh⟩ p (hp.trans (pos_ag d h).2.symm)) $$ [HO Ht Hf]
  · isplitr; · iexact He
    isplitl [HO]; · iexact HO
    isplitl [Ht]; · iexact Ht
    isplitr; · iexact Hg
    isplitl [Hf]
    · rw [← src_next]
      iexact Hf
    iexact Hr
  iintro HO
  iapply Hk
  iframe HO HS HR HrT HgT HsT Hat Hs Hst HpT Hcn Hd

theorem ag_last (d : Bool) (c : Dev nD) (h : Fin 15) (hh : ¬ h.val < 14) : agFree m d c h.val ⊢ agSt m d c (h.val + 1) := by
  have e : h.val = 14 := by have := h.isLt; omega
  unfold agFree agSt base
  rw [e, if_neg (by decide : ¬ 14 + 1 < 15)]
  iintro ⟨HB, HgT, HsT, Hat, -, Hs, Hf, Hst, HpT, Hcn, Hd⟩
  iframe HB HsT Hat Hs Hst HpT Hcn Hd
  isplitr; · iapply (gTok_end true d c (by decide : 15 ≤ 14 + 1 + 1)); iempintro
  iexact Hf

/-! ### Whole steps, in both directions -/

/-- Before reducing step `s`. -/
def rsAll (c : Dev nD) (s : ℕ) : sProp 𝕄 :=
  iprop(owing c (9 + 4 * min s 14) ∗ xPts m c ∗ wPts m c ∗ (accAny false c ∗ accAny true c) ∗ rsSt m false c s ∗ rsSt m true c s)

/-- Reducing step `s`. -/
theorem run_rsStep (c : Dev nD) (s : Fin 15) (k : Pg F PUnit) (Q : PUnit → sProp 𝕄) :
    iprop(env m K ∗ rsAll m c s.val)
      ⊢ iprop((rsAll m c (s.val + 1) -∗ Runs c k Q) -∗ Runs c (rsStep xM wM c s k) Q) := by
  have hs := s.isLt
  have e0 : 9 + 4 * min s.val 14 = if s.val < 14 then 9 + 4 * s.val + 2 * Bool.toNat false else 65 := by
    show _ = if s.val < 14 then 9 + 4 * s.val + 2 * 0 else 65
    split <;> omega
  have e1 : (if s.val < 14 then 9 + 4 * min s.val 14 + 2 else 9 + 4 * min s.val 14)
      = if s.val < 14 then 9 + 4 * s.val + 2 * Bool.toNat true else 65 := by
    show _ = if s.val < 14 then 9 + 4 * s.val + 2 * 1 else 65
    split <;> omega
  have e2 : (if s.val < 14 then (if s.val < 14 then 9 + 4 * min s.val 14 + 2 else 9 + 4 * min s.val 14) + 2
      else (if s.val < 14 then 9 + 4 * min s.val 14 + 2 else 9 + 4 * min s.val 14)) = 9 + 4 * min (s.val + 1) 14 := by
    split <;> omega
  unfold rsAll rsStep
  rw [← e2]
  iintro ⟨#He, HO, Hx, Hw, ⟨Ha, Hb⟩, Hf, Hg⟩ Hk
  iapply (run_rsDot m false c s) $$ [Hx Hw Ha]
  · iframe
  iintro ⟨Hx, Hw, Ha⟩
  iapply (run_rsDot m true c s) $$ [Hx Hw Hb]
  · iframe
  iintro ⟨Hx, Hw, Hb⟩
  iapply (run_rsHalf m K false c s _ e0) $$ [HO Hf Ha]
  · iframe
    iexact He
  iintro ⟨HO, Hf, Ha⟩
  iapply (run_rsHalf m K true c s _ e1) $$ [HO Hg Hb]
  · iframe
    iexact He
  iintro ⟨HO, Hg, Hb⟩
  iapply Hk
  iframe

/-- Before gathering step `h`. -/
def agAll (c : Dev nD) (h : ℕ) : sProp 𝕄 :=
  iprop(owing c (if h < 15 then 65 + 4 * h else 123) ∗ agSt m false c h ∗ agSt m true c h)

/-- Gathering step `h`. -/
theorem run_agStep (c : Dev nD) (h : Fin 15) (k : Pg F PUnit) (Q : PUnit → sProp 𝕄) :
    iprop(env m K ∗ agAll m c h.val)
      ⊢ iprop((agAll m c (h.val + 1) -∗ Runs c k Q) -∗ Runs c (agStep c h k) Q) := by
  have hh := h.isLt
  unfold agAll agStep
  rw [if_pos hh]
  iintro ⟨#He, HO, Hf, Hg⟩ Hk
  iapply (run_agStart m K false c h (65 + 4 * h.val) rfl) $$ [HO Hf]
  · iframe; iexact He
  iintro ⟨HO, Hf⟩
  iapply (run_agStart m K true c h (65 + 4 * h.val + 1) rfl) $$ [HO Hg]
  · iframe; iexact He
  iintro ⟨HO, Hg⟩
  iapply (run_agTake m K false c h (65 + 4 * h.val + 1 + 1) (by show 66 + 4 * h.val + 0 ≤ _; omega)) $$ [HO Hf]
  · iframe; iexact He
  iintro ⟨HO, Hf⟩
  iapply (run_agTake m K true c h (65 + 4 * h.val + 1 + 1) (by show 66 + 4 * h.val + 1 ≤ _; omega)) $$ [HO Hg]
  · iframe; iexact He
  iintro ⟨HO, Hg⟩
  iapply (run_agStore m K false c h (65 + 4 * h.val + 1 + 1) (by omega)) $$ [HO Hf]
  · iframe; iexact He
  iintro ⟨HO, Hf⟩
  iapply (run_agStore m K true c h (65 + 4 * h.val + 1 + 1) (by omega)) $$ [HO Hg]
  · iframe; iexact He
  iintro ⟨HO, Hg⟩
  iapply (run_agSent m K false c h (65 + 4 * h.val + 1 + 1) (by omega)) $$ [HO Hf]
  · iframe; iexact He
  iintro ⟨HO, Hf⟩
  iapply (run_agSent m K true c h (65 + 4 * h.val + 1 + 1) (by omega)) $$ [HO Hg]
  · iframe; iexact He
  iintro ⟨HO, Hg⟩
  by_cases h14 : h.val < 14
  · rw [if_pos h14, if_pos (Nat.succ_lt_succ h14 : h.val + 1 < 15)]
    iapply (run_agGrant m K false c h h14 (65 + 4 * h.val + 1 + 1) (by show _ = 67 + 4 * h.val + 0; omega)) $$ [HO Hf]
    · iframe; iexact He
    iintro ⟨HO, Hf⟩
    iapply (run_agGrant m K true c h h14 (65 + 4 * h.val + 1 + 1 + 1) (by show _ = 67 + 4 * h.val + 1; omega)) $$ [HO Hg]
    · iframe; iexact He
    iintro ⟨HO, Hg⟩
    iapply Hk
    iframe Hf Hg
    iexact HO
  · rw [if_neg h14, if_neg (by omega : ¬ h.val + 1 < 15), show 65 + 4 * h.val + 1 + 1 = 123 by omega]
    iapply Hk
    isplitl [HO]; · iexact HO
    isplitl [Hf]
    · iapply (ag_last m false c h h14); iexact Hf
    · iapply (ag_last m true c h h14); iexact Hg

/-- A pass runs when each of its steps does. -/
theorem run_upto (c : Dev nD) (f : Fin 15 → Pg F PUnit → Pg F PUnit) (I : ℕ → sProp 𝕄) (Q : PUnit → sProp 𝕄)
    (step : ∀ (s : Fin 15) k, iprop(env m K ∗ I s.val) ⊢ iprop((I (s.val + 1) -∗ Runs c k Q) -∗ Runs c (f s k) Q)) :
    ∀ (n : ℕ) (h : n ≤ 15) (k : Pg F PUnit), iprop(env m K ∗ I 0) ⊢ iprop((I n -∗ Runs c k Q) -∗ Runs c (upto f n h k) Q)
  | 0, _, k => by
    unfold upto
    iintro ⟨-, H⟩ Hk
    iapply Hk
    iexact H
  | n + 1, h, k => by
    unfold upto
    iintro ⟨#He, H⟩ Hk
    iapply (run_upto c f I Q step n (Nat.le_of_succ_le h) (f ⟨n, h⟩ k)) $$ [H]
    · iframe; iexact He
    iintro H
    iapply (step ⟨n, h⟩ k) $$ [H]
    · iframe; iexact He
    iexact Hk

end Cert.Proof

end
-- ==== Proof.Body.lean ====
/-
  The whole body at one device: from what the launch deals it to what it gives back.
-/
module

public import proofs.«01_k».proof.Proof.Steps

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (K : Dev nD × CK → ℕ)

/-! ### Before the first step -/

/-- What a device is dealt of one direction of a pass; -/
def chan (g d : Bool) (c : Dev nD) : sProp 𝕄 :=
  iprop(base g d c 0 ∗ gTok g d c 0 ∗ sTok g d c 0 ∗ at' c (.cr g d) 0 ∗ slotAny g d c (dstP g (par 0)) ∗ slotAny g d c (srcP g (par 0)))

/-- of one direction's stores; -/
def puts (d : Bool) (c : Dev nD) : sProp 𝕄 := iprop(two c (.st d) 0 ∗ pTok d c 0)

/-- of the barrier; -/
def meets (c : Dev nD) : sProp 𝕄 :=
  iprop(dutyTok ER (cellAt (nb true c) .bar) 0 true ∗ dutyTok ER (cellAt (nb false c) .bar) 0 false
    ∗ cred (tallyAt (cellAt c .bar) 0 2) ∗ atPos ER (cellAt c .bar) 0 ∅ 0)

/-- a direction whose first slot is granted. -/
def granted (g d : Bool) (c : Dev nD) : sProp 𝕄 :=
  iprop(base g d c 0 ∗ gTok g d c 1 ∗ sTok g d c 0 ∗ at' c (.cr g d) 0)

theorem run_open (g d : Bool) (c : Dev nD) (p : ℕ) (hp : p = posN false g d 0) (k : Pg F PUnit) (Q : PUnit → sProp 𝕄) :
    iprop(env m K ∗ owing c p ∗ chan g d c)
      ⊢ iprop((owing c (p + 1) ∗ granted g d c ∗ slotAny g d c (srcP g (par 0)) -∗ Runs c k Q) -∗ Runs c (grant g d c k) Q) := by
  unfold chan granted base
  rw [gTok_next g d c (s := 0) (by decide)]
  iintro ⟨#He, HO, ⟨HS, HR, HrT⟩, ⟨Ht, HgT⟩, HsT, Hat, Hd, Hs⟩ Hk
  unfold two at'
  icases HR with ⟨⟨HR, #Hr⟩, HRo⟩
  iapply (run_grant m K g d c (0 : Fin 15) p hp) $$ [HO Ht Hd]
  · isplitr; · iexact He
    isplitl [HO]; · iexact HO
    isplitl [Ht]; · iexact Ht
    isplitr; · iapply (env_reached m K (src d c) (.cr g d)); iexact He
    isplitl [Hd]; · iexact Hd
    iexact Hr
  iintro HO
  iapply Hk
  iframe HO HS HR HRo HrT HgT HsT Hat Hs
  iexact Hr

/-- The reducing pass's first block is sent. -/
theorem run_begin (d : Bool) (c : Dev nD) (p : ℕ) (hp : p = posN true false d 0) (k : Pg F PUnit) (Q : PUnit → sProp 𝕄) :
    iprop(env m K ∗ owing c p ∗ granted false d c ∗ slotPts m false d c 1 fullShare (sumV m d 0 c))
      ⊢ iprop((owing c (p + 1) ∗ rsSt m d c 0 -∗ Runs c k Q) -∗ Runs c (start false d c 0 k) Q) := by
  unfold granted rsSt base
  rw [sTok_next false d c (s := 0) (by decide), if_pos (by decide : 0 < 15)]
  iintro ⟨#He, HO, ⟨⟨HS, HR, HrT⟩, HgT, ⟨⟨Ht1, Ht2, Hc2⟩, HsT⟩, Hat⟩, Hs⟩ Hk
  unfold two at'
  icases HS with ⟨⟨HS, #Hr⟩, HSo⟩
  iapply (run_start m K false d c (0 : Fin 15) p hp) $$ [HO Hc2 Hat Ht1 Ht2 Hs]
  · isplitr; · iexact He
    isplitl [HO]; · iexact HO
    isplitl [Hc2]; · iexact Hc2
    isplitl [Hat]; · unfold at'; iexact Hat
    isplitl [Ht1]; · iexact Ht1
    isplitr; · iexact Hr
    isplitl [Ht2]; · iexact Ht2
    iexact Hs
  iintro ⟨HO, Hat, Hc2⟩
  unfold at'
  iapply Hk
  iframe HO HS HSo HR HrT HgT HsT
  isplitr; · iexact Hr
  isplitl [Hat]; · iexact Hat
  iexact Hc2

/-- The first block of the result is being stored. -/
theorem run_put (d : Bool) (c : Dev nD) (k : Pg F PUnit) (Q : PUnit → sProp 𝕄) :
    iprop(env m K ∗ granted true d c ∗ puts d c ∗ slotPts m true d c 0 fullShare (ownV m d c))
      ⊢ iprop((agSt m d c 0 -∗ Runs c k Q) -∗ Runs c (putStart d c 0 k) Q) := by
  unfold granted puts agSt stored
  rw [pTok_next d c (n := 0) (by decide), if_pos (by decide : 0 < 15), Finset.range_zero, bigSep_empty]
  iintro ⟨#He, ⟨HB, HgT, HsT, Hat⟩, ⟨Hst, ⟨⟨Ht, Ho⟩, HpT⟩⟩, Hs⟩ Hk
  ihave Hs2 := (slot_halves m true d c 0 (ownV m d c)).1 $$ Hs
  icases Hs2 with ⟨Hl, Hr⟩
  unfold two at'
  icases Hst with ⟨⟨Hst, #Hrs⟩, Hsto⟩
  iapply (run_putStart m K d c (0 : Fin 16)) $$ [Ht Hl Ho]
  · isplitr; · iexact He
    isplitl [Ht]; · iexact Ht
    isplitr; · iexact Hrs
    isplitl [Hl]; · iexact Hl
    iexact Ho
  iintro Hc
  iapply Hk
  iframe HB HgT HsT Hat Hst Hsto HpT
  isplitl [Hr]; · iexact Hr
  isplitr; · iexact Hrs
  isplitl [Hc]; · iexact Hc
  isplitr <;> iempintro

/-- What a device gives back of one direction of a pass; -/
def chanEnd (g d : Bool) (c : Dev nD) : sProp 𝕄 :=
  iprop(two c (.sS g d) 15 ∗ two c (.sR g d) 15 ∗ at' c (.cr g d) 15 ∗ slotAny g d c 0 ∗ slotAny g d c 1)

/-- of one direction's stores. -/
def putsEnd (d : Bool) (c : Dev nD) : sProp 𝕄 := iprop(two c (.st d) 16 ∗ stored m d c 16)

/-- The last block of the result is stored. -/
theorem run_close (d : Bool) (c : Dev nD) (k : Pg F PUnit) (Q : PUnit → sProp 𝕄) :
    iprop(env m K ∗ owing c 123 ∗ agSt m d c 15)
      ⊢ iprop((owing c 123 ∗ chanEnd true d c ∗ putsEnd m d c -∗ Runs c k Q) -∗ Runs c (putWait d c 15 k) Q) := by
  have e : stored m d c 16 = iprop(outPts m d c 15 ∗ stored m d c 15) := bigSep_range_succ 15 _
  unfold agSt base chanEnd putsEnd
  rw [if_neg (by decide : ¬ 15 < 15), e]
  iintro ⟨#He, HO, ⟨HS, HR, -⟩, -, -, Hat, Hr, Hst, -, Hc, Hd, Hf⟩ Hk
  ihave Hst' := (two_next c (.st d) 15) $$ Hst
  icases Hst' with ⟨Hst, Hstk⟩
  iapply (run_putWait m K d c (15 : Fin 16) 123 (by decide)) $$ [HO Hc Hst]
  · isplitr; · iexact He
    isplitl [HO]; · iexact HO
    isplitl [Hc]; · iexact Hc
    iexact Hst
  rw [show (15 : Fin 16).val = 15 from rfl]
  iintro ⟨HO, Hst, Ho, Hl⟩
  ihave Hst' := Hstk $$ Hst
  iapply Hk
  iframe HO HS HR Hat Hf Hst' Hd
  isplitr [Ho]
  · iapply (slotPts_any m true d c 1 (gatV m d 15 c))
    iapply (slot_halves m true d c 1 (gatV m d 15 c)).2
    isplitl [Hl]; · iexact Hl
    iexact Hr
  iexact Ho

theorem rs_end (d : Bool) (c : Dev nD) :
    rsSt m d c 15 ⊢ iprop((slotPts m false d c 0 fullShare (sumV m d 15 c)) ∗
      (slotPts m false d c 0 fullShare (sumV m d 15 c) -∗ chanEnd false d c)) := by
  unfold rsSt base chanEnd
  rw [if_neg (by decide : ¬ 15 < 15)]
  iintro ⟨⟨HS, HR, -⟩, -, -, Hat, Hs, Hf⟩
  isplitl [Hs]; · iexact Hs
  iintro Hs
  iframe HS HR Hat Hf
  iapply (slotPts_any m false d c 0 (sumV m d 15 c))
  iexact Hs

/-! ### The whole body -/

/-- What the body starts from, beside what every device knows; -/
def given (c : Dev nD) : sProp 𝕄 :=
  iprop(owing c 0 ∗ meets c ∗ xPts m c ∗ wPts m c ∗ (accAny false c ∗ accAny true c)
    ∗ (chan false false c ∗ chan false true c ∗ chan true false c ∗ chan true true c) ∗ puts false c ∗ puts true c)

/-- what it ends in. -/
def left (c : Dev nD) : sProp 𝕄 :=
  iprop(owing c 123 ∗ atPos ER (cellAt c .bar) 1 ∅ 0 ∗ xPts m c ∗ wPts m c ∗ (accAny false c ∗ accAny true c)
    ∗ (chanEnd false false c ∗ chanEnd false true c ∗ chanEnd true false c ∗ chanEnd true true c)
    ∗ putsEnd m false c ∗ putsEnd m true c)

/-- The body at device `c`. -/
theorem run_body (c : Dev nD) (Q : PUnit → sProp 𝕄) :
    iprop(env m K ∗ given m c) ⊢ iprop((left m c -∗ Q ⟨⟩) -∗ Runs c (bodyAt xM wM c) Q) := by
  unfold given left meets bodyAt prologue middle
  iintro ⟨#He, HO, ⟨Ht, Hf, Hc, Hat⟩, Hx, Hw, ⟨Ha, Hb⟩, ⟨H1, H2, H3, H4⟩, Hp, Hq⟩ Hk
  iapply (run_meet m K c) $$ [HO Ht Hf Hc Hat]
  · iframe; iexact He
  iintro ⟨HO, Hbar⟩
  iapply (run_open m K false false c 3 rfl) $$ [HO H1]
  · iframe; iexact He
  iintro ⟨HO, H1, S1⟩
  iapply (run_open m K false true c 4 rfl) $$ [HO H2]
  · iframe; iexact He
  iintro ⟨HO, H2, S2⟩
  iapply (run_open m K true false c 5 rfl) $$ [HO H3]
  · iframe; iexact He
  iintro ⟨HO, H3, S3⟩
  iapply (run_open m K true true c 6 rfl) $$ [HO H4]
  · iframe; iexact He
  iintro ⟨HO, H4, S4⟩
  iapply (run_first m false c) $$ [Hx Hw S1]
  · isplitl [Hx]; · iexact Hx
    isplitl [Hw]; · iexact Hw
    iexact S1
  iintro ⟨Hx, Hw, S1⟩
  iapply (run_first m true c) $$ [Hx Hw S2]
  · isplitl [Hx]; · iexact Hx
    isplitl [Hw]; · iexact Hw
    iexact S2
  iintro ⟨Hx, Hw, S2⟩
  iapply (run_begin m K false c 7 rfl) $$ [HO H1 S1]
  · iframe; iexact He
  iintro ⟨HO, H1⟩
  iapply (run_begin m K true c 8 rfl) $$ [HO H2 S2]
  · iframe; iexact He
  iintro ⟨HO, H2⟩
  iapply (run_upto m K c (rsStep xM wM c) (rsAll m c) Q (fun s k => run_rsStep m K c s k Q) 15 (Nat.le_refl _)) $$ [HO Hx Hw Ha Hb H1 H2]
  · isplitr; · iexact He
    unfold rsAll
    iframe Hx Hw Ha Hb H1 H2
    iexact HO
  unfold rsAll
  iintro ⟨HO, Hx, Hw, ⟨Ha, Hb⟩, H1, H2⟩
  ihave H1' := (rs_end m false c) $$ H1
  icases H1' with ⟨S1, H1⟩
  ihave H2' := (rs_end m true c) $$ H2
  icases H2' with ⟨S2, H2⟩
  iapply (run_act m false c) $$ [S1 S3]
  · isplitl [S1]; · iexact S1
    iexact S3
  iintro ⟨S1, S3⟩
  ihave H1' := H1 $$ S1
  iapply (run_act m true c) $$ [S2 S4]
  · isplitl [S2]; · iexact S2
    iexact S4
  iintro ⟨S2, S4⟩
  ihave H2' := H2 $$ S2
  iapply (run_put m K false c) $$ [H3 Hp S3]
  · iframe; iexact He
  iintro H3
  iapply (run_put m K true c) $$ [H4 Hq S4]
  · iframe; iexact He
  iintro H4
  iapply (run_upto m K c (agStep c) (agAll m c) Q (fun s k => run_agStep m K c s k Q) 15 (Nat.le_refl _)) $$ [HO H3 H4]
  · isplitr; · iexact He
    unfold agAll
    iframe H3 H4
    iexact HO
  unfold agAll
  iintro ⟨HO, H3, H4⟩
  iapply (run_close m K false c) $$ [HO H3]
  · isplitr; · iexact He
    iframe H3
    iexact HO
  iintro ⟨HO, H3, Hp⟩
  iapply (run_close m K true c) $$ [HO H4]
  · iframe; iexact He
  iintro ⟨HO, H4, Hq⟩
  unfold Runs
  rw [wp_ret]
  imodintro
  iapply Hk
  iframe

end Cert.Proof

end
-- ==== Proof.Deal.lean ====
/-
  The launch deals each device its cells, its tokens and its credit, and takes the closed cells back.
-/
module

public import proofs.«01_k».proof.Proof.Body
public import Idealize.ShloMosaic.Lib.Ring
public import proofs.«01_k».proof.Proof.Gen.KernelIdeal.Launch

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

/-! ### Families -/

/-- One of each for the two passes and the two directions. -/
def quad (X : Bool → Bool → sProp 𝕄) : sProp 𝕄 := iprop(X false false ∗ X false true ∗ X true false ∗ X true true)

theorem over_bool (Φ : Bool → sProp 𝕄) : bigSep Finset.univ Φ = iprop(Φ false ∗ Φ true) :=
  bigSep_univ_eq_bigSepL [false, true] (by decide) (by decide) Φ

theorem over_steps (Φ : ℕ → sProp 𝕄) : (bigSep Finset.univ fun i : Fin 15 => Φ i.val) = bigSep (Finset.Ico 0 15) Φ := by
  rw [Ring.bigSep_fin_eq_range 15 _ Φ fun _ _ => rfl, Finset.range_eq_Ico]

theorem over_products (Φ : ℕ → sProp 𝕄) : (bigSep Finset.univ fun i : Fin 16 => Φ i.val) = bigSep (Finset.Ico 0 16) Φ := by
  rw [Ring.bigSep_fin_eq_range 16 _ Φ fun _ _ => rfl, Finset.range_eq_Ico]

theorem sep_regroup (A B C D : sProp 𝕄) : iprop((A ∗ B) ∗ C ∗ D) = iprop(A ∗ B ∗ C ∗ D) := by
  refine BI.Entails.antisymm ?_ ?_
  · show iprop((A ∗ B) ∗ C ∗ D) ⊢ iprop(A ∗ B ∗ C ∗ D)
    iintro ⟨⟨H1, H2⟩, H3, H4⟩; iframe
  · show iprop(A ∗ B ∗ C ∗ D) ⊢ iprop((A ∗ B) ∗ C ∗ D)
    iintro ⟨H1, H2, H3, H4⟩; iframe

theorem over_quad (Φ : Bool → Bool → ℕ → sProp 𝕄) :
    (bigSep Finset.univ fun q : Bool × Bool × Fin 15 => Φ q.1 q.2.1 q.2.2.val) = quad fun g d => bigSep (Finset.Ico 0 15) (Φ g d) := by
  rw [bigSep_univ_prod, over_bool, bigSep_univ_prod, bigSep_univ_prod, over_bool, over_bool]
  dsimp only
  rw [over_steps, over_steps, over_steps, over_steps]
  unfold quad
  exact sep_regroup _ _ _ _

theorem over_puts (Φ : Bool → ℕ → sProp 𝕄) :
    (bigSep Finset.univ fun q : Bool × Fin 16 => Φ q.1 q.2.val)
      = iprop(bigSep (Finset.Ico 0 16) (Φ false) ∗ bigSep (Finset.Ico 0 16) (Φ true)) := by
  rw [bigSep_univ_prod, over_bool]
  dsimp only
  rw [over_products, over_products]

/-- The scoped cells, listed. -/
abbrev scopedCells : List CK :=
  [.cr false false, .cr false true, .cr true false, .cr true true,
   .sS false false 0, .sS false false 1, .sS false true 0, .sS false true 1, .sS true false 0, .sS true false 1, .sS true true 0, .sS true true 1,
   .sR false false 0, .sR false false 1, .sR false true 0, .sR false true 1, .sR true false 0, .sR true false 1, .sR true true 0, .sR true true 1,
   .st false 0, .st false 1, .st true 0, .st true 1]

/-- All cells of a device, grouped. -/
theorem over_cells (Φ : CK → sProp 𝕄) :
    bigSep Finset.univ Φ = iprop(Φ .bar ∗ quad (fun g d => Φ (.cr g d)) ∗ quad (fun g d => iprop(Φ (.sS g d 0) ∗ Φ (.sS g d 1)))
      ∗ quad (fun g d => iprop(Φ (.sR g d 0) ∗ Φ (.sR g d 1))) ∗ (Φ (.st false 0) ∗ Φ (.st false 1)) ∗ (Φ (.st true 0) ∗ Φ (.st true 1))) := by
  rw [bigSep_univ_eq_bigSepL (CK.bar :: scopedCells) (by decide +kernel) (by decide +kernel) Φ]
  unfold quad
  dsimp only
  refine BI.Entails.antisymm ?_ ?_
  · show iprop(Φ .bar ∗ Φ (.cr false false) ∗ Φ (.cr false true) ∗ Φ (.cr true false) ∗ Φ (.cr true true)
      ∗ Φ (.sS false false 0) ∗ Φ (.sS false false 1) ∗ Φ (.sS false true 0) ∗ Φ (.sS false true 1) ∗ Φ (.sS true false 0) ∗ Φ (.sS true false 1) ∗ Φ (.sS true true 0) ∗ Φ (.sS true true 1)
      ∗ Φ (.sR false false 0) ∗ Φ (.sR false false 1) ∗ Φ (.sR false true 0) ∗ Φ (.sR false true 1) ∗ Φ (.sR true false 0) ∗ Φ (.sR true false 1) ∗ Φ (.sR true true 0) ∗ Φ (.sR true true 1)
      ∗ Φ (.st false 0) ∗ Φ (.st false 1) ∗ Φ (.st true 0) ∗ Φ (.st true 1)) ⊢ _
    iintro ⟨H0, H1, H2, H3, H4, A1, A2, A3, A4, A5, A6, A7, A8, B1, B2, B3, B4, B5, B6, B7, B8, C1, C2, C3, C4⟩
    iframe
  · show _ ⊢ iprop(Φ .bar ∗ Φ (.cr false false) ∗ Φ (.cr false true) ∗ Φ (.cr true false) ∗ Φ (.cr true true)
      ∗ Φ (.sS false false 0) ∗ Φ (.sS false false 1) ∗ Φ (.sS false true 0) ∗ Φ (.sS false true 1) ∗ Φ (.sS true false 0) ∗ Φ (.sS true false 1) ∗ Φ (.sS true true 0) ∗ Φ (.sS true true 1)
      ∗ Φ (.sR false false 0) ∗ Φ (.sR false false 1) ∗ Φ (.sR false true 0) ∗ Φ (.sR false true 1) ∗ Φ (.sR true false 0) ∗ Φ (.sR true false 1) ∗ Φ (.sR true true 0) ∗ Φ (.sR true true 1)
      ∗ Φ (.st false 0) ∗ Φ (.st false 1) ∗ Φ (.st true 0) ∗ Φ (.st true 1))
    iintro ⟨H0, ⟨H1, H2, H3, H4⟩, ⟨⟨A1, A2⟩, ⟨A3, A4⟩, ⟨A5, A6⟩, A7, A8⟩, ⟨⟨B1, B2⟩, ⟨B3, B4⟩, ⟨B5, B6⟩, B7, B8⟩, ⟨C1, C2⟩, C3, C4⟩
    iframe

/-- A family over the devices, each member moved around its own ring. -/
theorem around {I : Type} [Fintype I] (e : I → Dev nD ≃ Dev nD) (Φ : I → Dev nD → sProp 𝕄) :
    (bigSep Finset.univ fun c : Dev nD => bigSep Finset.univ fun i : I => Φ i c)
      = bigSep Finset.univ fun c : Dev nD => bigSep Finset.univ fun i : I => Φ i (e i c) := by
  rw [← bigSep_univ_prod (fun p : Dev nD × I => Φ p.2 p.1), ← bigSep_univ_prod (fun p : Dev nD × I => Φ p.2 (e p.2 p.1))]
  exact bigSep_univ_equiv (⟨fun p => (e p.2 p.1, p.2), fun p => ((e p.2).symm p.1, p.2), fun p => by simp, fun p => by simp⟩ : Dev nD × I ≃ Dev nD × I) _

/-! ### The tokens -/

/-- A duty of a device's own cells: one a neighbour pays, the completion of a block sent, or of a product stored. -/
abbrev DK : Type := PK ⊕ (Bool × Bool × Fin 15) ⊕ (Bool × Fin 16)

/-- Its cell, round and name. -/
def dutyOf : DK → CK × ℕ × Bool
  | .inl k => (pcell k, pround k, pduty k)
  | .inr (.inl q) => (.sS q.1 q.2.1 (par q.2.2.val), q.2.2.val / 2, false)
  | .inr (.inr q) => (.st q.1 (par q.2.val), q.2.val / 2, false)

set_option synthInstance.maxHeartbeats 400000 in
set_option synthInstance.maxSize 2000 in
theorem dutyOf_injective : Function.Injective dutyOf := by
  have h : ∀ a b : DK, dutyOf a = dutyOf b → a = b := by decide +kernel
  exact fun a b => h a b

def tokOf (p : Dev nD × DK) : GSem nD τ sig × ℕ × Bool := (cellAt p.1 (dutyOf p.2).1, (dutyOf p.2).2)

theorem tokOf_injective : Function.Injective tokOf := by
  rintro ⟨c, i⟩ ⟨c', i'⟩ h
  have h1 : ((c, (dutyOf i).1) : Dev nD × CK) = (c', (dutyOf i').1) := cellAt_injective (congrArg (fun x : GSem nD τ sig × ℕ × Bool => x.1) h)
  have h2 : (dutyOf i).2 = (dutyOf i').2 := congrArg (fun x : GSem nD τ sig × ℕ × Bool => x.2) h
  have h3 : i = i' := dutyOf_injective (Prod.ext (congrArg (fun x : Dev nD × CK => x.2) h1) h2)
  have h4 : c = c' := congrArg (fun x : Dev nD × CK => x.1) h1
  rw [h3, h4]

def allCells : Finset (GSem nD τ sig) := Finset.univ.map ⟨fun p : Dev nD × CK => cellAt p.1 p.2, cellAt_injective⟩
def allToks : Finset (GSem nD τ sig × ℕ × Bool) := Finset.univ.map ⟨tokOf, tokOf_injective⟩

/-- The tokens of the duties of device `c`'s cells, -/
def ownToks (c : Dev nD) : sProp 𝕄 := bigSep Finset.univ fun i : DK => dutyTok ER (cellAt c (dutyOf i).1) (dutyOf i).2.1 (dutyOf i).2.2

/-- and of the duties device `c` pays. -/
def payToks (c : Dev nD) : sProp 𝕄 :=
  iprop((bigSep Finset.univ fun k : PK => dutyTok ER (cellAt (tgt k c) (pcell k)) (pround k) (pduty k))
    ∗ (bigSep Finset.univ fun q : Bool × Bool × Fin 15 => dutyTok ER (cellAt c (.sS q.1 q.2.1 (par q.2.2.val))) (q.2.2.val / 2) false)
    ∗ bigSep Finset.univ fun q : Bool × Fin 16 => dutyTok ER (cellAt c (.st q.1 (par q.2.val))) (q.2.val / 2) false)

theorem toks_around : (bigSep Finset.univ fun c : Dev nD => (ownToks c : sProp 𝕄)) ⊢ bigSep Finset.univ fun c : Dev nD => payToks c := by
  have h1 (c : Dev nD) : (ownToks c : sProp 𝕄) = iprop((bigSep Finset.univ fun k : PK => dutyTok ER (cellAt c (pcell k)) (pround k) (pduty k))
      ∗ (bigSep Finset.univ fun q : Bool × Bool × Fin 15 => dutyTok ER (cellAt c (.sS q.1 q.2.1 (par q.2.2.val))) (q.2.2.val / 2) false)
      ∗ bigSep Finset.univ fun q : Bool × Fin 16 => dutyTok ER (cellAt c (.st q.1 (par q.2.val))) (q.2.val / 2) false) := by
    unfold ownToks
    rw [bigSep_univ_sum (α := PK), bigSep_univ_sum (α := Bool × Bool × Fin 15)]
    rfl
  rw [bigSep_congr fun c _ => h1 c]
  unfold payToks
  simp only [bigSep_sep']
  rw [around (fun k : PK => ⟨tgt k, payer k, payer_tgt k, tgt_payer k⟩)
    (fun k c => (dutyTok ER (cellAt c (pcell k)) (pround k) (pduty k) : sProp 𝕄))]
  exact BI.Entails.refl _

/-! ### The cells -/

/-- The invariants of all cells, each at its first round. -/
def cells (K : Dev nD × CK → ℕ) : sProp 𝕄 :=
  bigSep Finset.univ fun p : Dev nD × CK => iprop(cellInv ER (Rd m) (K p) (cellAt p.1 p.2) ∗ reached ER (cellAt p.1 p.2) 0)

instance cells_persistent (K : Dev nD × CK → ℕ) : BI.Persistent (cells m K) := by unfold cells; infer_instance

/-- What the launch deals device `c`, -/
def G (c : Dev nD) : sProp 𝕄 :=
  iprop((bigSep Finset.univ fun k : CK => roundState ER (Rd m) (cellAt c k) 0) ∗ (bigSep Finset.univ fun k : CK => at' c k 0) ∗ ownToks c)

/-- and what the devices make of it together. -/
def G' (c : Dev nD) : sProp 𝕄 := iprop(∃ K, cells m K ∗ (bigSep Finset.univ fun k : CK => at' c k 0) ∗ payToks c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : CK => Φ (cellAt c k) := by
    unfold allCells; rw [bigSep_map, bigSep_univ_prod]; rfl
  have hT : bigSep allToks (fun x => (dutyTok ER x.1 x.2.1 x.2.2 : sProp 𝕄)) = bigSep Finset.univ fun c : Dev nD => ownToks c := by
    unfold allToks; rw [bigSep_map, bigSep_univ_prod]; rfl
  iintro HX
  imod (Rounds.fund ER (Rd m) allCells allToks) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G at'; simp only [bigSep_sep']
  iframe

abbrev osem : Fin 24 → SemLoc sig := fun i => csem (scopedCells.get i)

theorem ownSemFacts : Pipeline.OwnSemFacts cfg0.spec osem := by decide +kernel

/-- The kernel's own counters and the barrier's are the counters of the cells. -/
theorem sems_eq (c : Dev nD) :
    iprop(Pipeline.ownSems0 (Ix := ℕ) (Name := ℕ) (U := UU) (Lvl := ℕ) (Val := Elt F) (τ := τ) osem c ∗ unscopedSems0 c)
      ⊣⊢ (bigSep Finset.univ fun k : CK => semVal (cellAt c k) 0 : sProp 𝕄) := by
  have h1 : (Pipeline.ownSems0 (Ix := ℕ) (Name := ℕ) (U := UU) (Lvl := ℕ) (Val := Elt F) (τ := τ) osem c : sProp 𝕄)
      = bigSepL scopedCells fun k => semVal (cellAt c k) 0 := by
    rw [Pipeline.ownSems0_eq_of_list c osem (List.finRange 24) (by decide +kernel) (by decide +kernel)]; rfl
  have h2 : (unscopedSems0 c : sProp 𝕄) = semVal (cellAt c .bar) 0 := by
    unfold unscopedSems0; rw [bigSep_eq_bigSepL_of_eq [SemLoc.reg barrier] (by decide) (by decide)]; rfl
  rw [h1, h2, bigSep_univ_eq_bigSepL (CK.bar :: scopedCells) (by decide +kernel) (by decide +kernel)]
  show _ ⊣⊢ iprop(semVal (cellAt c .bar) 0 ∗ bigSepL scopedCells fun k => semVal (cellAt c k) 0)
  exact ⟨by iintro ⟨H1, H2⟩; isplitl [H2] <;> iassumption, by iintro ⟨H1, H2⟩; isplitl [H2] <;> iassumption⟩

theorem alloc_cells (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (Rd m) κ (cellAt c k)))
          ∗ (bigSep Finset.univ fun k : CK => at' c k 0) ∗ ownToks c) := by
  unfold G
  iintro ⟨Hos, Hus, Hst, Hat, Htok⟩
  ihave Hv := (sems_eq (F := F) c).1 $$ [Hos Hus]
  · isplitl [Hos] <;> iassumption
  imod (show iprop((bigSep Finset.univ fun k : CK => semVal (cellAt c k) 0) ∗ bigSep Finset.univ fun k : CK => roundState ER (Rd m) (cellAt c k) 0)
      ⊢ (|={Set.univ}=> bigSep Finset.univ fun k : CK => iprop(∃ κ : ℕ, cellInv ER (Rd m) κ (cellAt c k)) : sProp 𝕄) from by
        rw [← bigSep_sep']
        exact (bigSep_mono fun k _ => (Rounds.body_intro ER (Rd m) (cellAt c k)).trans inv_alloc).trans (bigSep_fupd _ _)) $$ [Hv Hst] with Hinv
  · isplitl [Hv] <;> iassumption
  imodintro
  iframe

theorem share_out :
    (bigSep Finset.univ fun c : Dev nD => iprop((bigSep Finset.univ fun k : CK => iprop(∃ κ : ℕ, cellInv ER (Rd m) κ (cellAt c k)))
          ∗ (bigSep Finset.univ fun k : CK => at' c k 0) ∗ ownToks c) : sProp 𝕄)
      ⊢ bigSep Finset.univ (G' m) := by
  have hr : (bigSep Finset.univ fun c : Dev nD => bigSep Finset.univ fun k : CK => (at' c k 0 : sProp 𝕄))
      ⊢ iprop((bigSep Finset.univ fun p : Dev nD × CK => reached ER (cellAt p.1 p.2) 0) ∗ bigSep Finset.univ fun c : Dev nD => bigSep Finset.univ fun k : CK => at' c k 0) := by
    rw [← bigSep_univ_prod (fun p : Dev nD × CK => (at' p.1 p.2 0 : sProp 𝕄)), ← bigSep_sep']
    refine bigSep_mono fun p _ => ?_
    unfold at'
    show iprop(atPos ER (cellAt p.1 p.2) 0 ∅ 0 ∗ reached ER (cellAt p.1 p.2) 0) ⊢ iprop(reached ER (cellAt p.1 p.2) 0 ∗
      atPos ER (cellAt p.1 p.2) 0 ∅ 0 ∗ reached ER (cellAt p.1 p.2) 0)
    iintro ⟨H, #Hr⟩
    isplitr
    · iexact Hr
    isplitl [H]
    · iexact H
    iexact Hr
  rw [bigSep_sep', bigSep_sep', ← bigSep_univ_prod (fun p : Dev nD × CK => iprop(∃ κ : ℕ, cellInv ER (Rd m) κ (cellAt p.1 p.2)))]
  iintro ⟨HI, Hat, Htok⟩
  ihave HK := (BI.bigSep_exists_pi Finset.univ (fun (p : Dev nD × CK) (κ : ℕ) => (cellInv ER (Rd m) κ (cellAt p.1 p.2) : sProp 𝕄))) $$ HI
  icases HK with ⟨%K, #HI⟩
  ihave Hat := hr $$ Hat
  icases Hat with ⟨#HR, Hat⟩
  ihave Htok := (toks_around (F := F)) $$ Htok
  iapply (bigSep_with_persistent (R := cells m K) (Φ := fun c => iprop((bigSep Finset.univ fun k : CK => at' c k 0) ∗ payToks c)) fun c _ => by
    unfold G'; iintro ⟨#H, Hp⟩; iexists K; isplitr; · iexact H
    iexact Hp)
  isplitr
  · unfold cells; rw [bigSep_sep']; isplitl; · iexact HI
    iexact HR
  · rw [bigSep_sep']
    isplitl [Hat] <;> iassumption

/-- The cells of all devices, opened together. -/
theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => alloc_cells m c).trans (bigSep_fupd _ _)).trans (BI.fupd_mono (share_out m))

/-- A device done with its cells closes them. -/
theorem close_cells (K : Dev nD × CK → ℕ) (c : Dev nD) :
    iprop(env m K ∗ bigSep Finset.univ fun k : CK => (atPos ER (cellAt c k) (rounds k) ∅ 0 : sProp 𝕄))
      ⊢ |={Set.univ}=> bigSep Finset.univ fun k : CK => semVal (cellAt c k) 0 :=
  (bigSep_with_persistent fun k _ => by
    iintro ⟨#He, H⟩
    iapply (cell_close ER (Rd m) (κ := K (c, k)) (Set.mem_univ _) (fun h => h) (R := rounds k) (duties_after m c k))
    isplitr
    · iapply (env_inv m K c k); iexact He
    iexact H).trans (bigSep_fupd _ _)

/-! ### The credit -/

/-- The credit of the grants a device waits for in a direction of a pass. -/
def cTok (g d : Bool) (c : Dev nD) : sProp 𝕄 := bigSep (Finset.Ico 0 15) fun i => cred (tallyAt (cellAt c (.cr g d)) i 1)

theorem creds (c : Dev nD) :
    (Pipeline.launchCred (fun d => owed d 0) c : sProp 𝕄)
      ⊢ iprop(cred (tallyAt (cellAt c .bar) 0 2) ∗ quad (fun g d => cTok g d c) ∗ quad (fun g d => rTok g d c 0)) := by
  have h : (Pipeline.launchCred (fun d => owed d 0) c : sProp 𝕄)
      ⊢ bigSep Finset.univ fun k : PK => cred (tallyAt (cellAt c (pcell k)) (pidx k) (pamt k)) := by
    simp only [owed_zero]
    rw [Pipeline.launchCred_sum]
    exact bigSep_mono fun k _ => Pipeline.launchCred_tallyAt (csem (pcell k)) (tgt k) (payer k) (tgt_payer k) (payer_tgt k) (pidx k) (pamt k) c
  refine h.trans ?_
  rw [bigSep_univ_sum, over_bool, bigSep_univ_prod, over_bool]
  show iprop((cred (tallyAt (cellAt c .bar) 0 1) ∗ cred (tallyAt (cellAt c .bar) 0 1))
      ∗ (bigSep Finset.univ fun q : Bool × Bool × Fin 15 => cred (tallyAt (cellAt c (.cr q.1 q.2.1)) q.2.2.val 1))
      ∗ bigSep Finset.univ fun q : Bool × Bool × Fin 15 => cred (tallyAt (cellAt c (.sR q.1 q.2.1 (par q.2.2.val))) q.2.2.val N)) ⊢ _
  iintro ⟨⟨H1, H2⟩, H3, H4⟩
  isplitl [H1 H2]
  · iapply ((cred_add _ _).2.trans (Entails.of_eq (congrArg cred (tallyAt_add (cellAt c .bar) 0 1 1))))
    isplitl [H1]
    · iexact H1
    iexact H2
  isplitl [H3]
  · iapply (Entails.of_eq (over_quad fun g d i => (cred (tallyAt (cellAt c (.cr g d)) i 1) : sProp 𝕄)))
    iexact H3
  · iapply (Entails.of_eq (over_quad fun g d i => (cred (tallyAt (cellAt c (.sR g d (par i))) i N) : sProp 𝕄)))
    iexact H4

end Cert.Proof

end
-- ==== Proof.Buffers.lean ====
/-
  The kernel's buffers, whole and in parts.
-/
module

public import proofs.«01_k».proof.Proof.Deal
public import proofs.«01_k».proof.Proof.Gen.KernelIdeal.Launch

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

/-! ### Rectangles of a buffer -/

theorem access_disjoint {sp : Space} {s : Shape} {e : EltTy} (M : Memref sig .tc sp s e) (r r' : Rect s) (h : Disjoint r.set r'.set) :
    Disjoint (M.access r).set (M.access r').set := by
  show Disjoint (M.view.slice r).set (M.view.slice r').set
  rw [View.set_slice, View.set_slice]
  exact (Finset.disjoint_map _).mpr h

theorem access_cover {sp : Space} {s : Shape} {e : EltTy} (M : Memref sig .tc sp s e) {T : Type} [Fintype T] (r : T → Rect s)
    (h : ∀ x, ∃ t, x ∈ (r t).set) : (Finset.univ.biUnion fun t => (M.access (r t)).set) = M.view.set := by
  ext i
  constructor
  · intro hi
    obtain ⟨t, -, hi⟩ := Finset.mem_biUnion.mp hi
    exact View.set_slice_subset _ _ hi
  · intro hi
    obtain ⟨x, -, rfl⟩ := Finset.mem_map.mp hi
    obtain ⟨t, hx⟩ := h x
    refine Finset.mem_biUnion.mpr ⟨t, Finset.mem_univ _, ?_⟩
    show _ ∈ (M.view.slice (r t)).set
    rw [View.set_slice]
    exact Finset.mem_map_of_mem _ hx

theorem some_whole (b : Ref sig .tc) (c : Dev nD) :
    (iprop(∃ f, (Memref.whole b).view.loc (c : Thread nD τ) ↦[(Memref.whole b).view.set]{fullShare} f) : sProp 𝕄)
      = iprop(∃ f : Buf (Elt F) ((c : Thread nD τ).loc b), (c : Thread nD τ).loc b ↦{fullShare} f) := by
  simp only [Memref.view_whole, View.set_whole]

/-! ### The slots -/

abbrev slotRect (k : Fin 2) : Rect S2x512x2048 := Rect.unit (s := S2x512x2048) ![k.val, 0, 0] S1x512x2048.size (slot_inb k)

theorem mem_slotRect (k : Fin 2) (i : S2x512x2048.Idx) : i ∈ (slotRect k).set ↔ (i 0).val = k.val := by
  rw [Rect.mem_set_unit]
  constructor
  · intro h
    have h0 := h 0
    have e1 : k.val ≤ (i 0).val := h0.1
    have e2 : (i 0).val < k.val + 1 := h0.2
    omega
  · intro h a
    match a with
    | ⟨0, _⟩ => exact ⟨by show k.val ≤ (i 0).val; omega, by show (i 0).val < k.val + 1; omega⟩
    | ⟨1, _⟩ => exact ⟨Nat.zero_le _, by show (i 1).val < 0 + 512; have : (i 1).val < 512 := (i 1).isLt; omega⟩
    | ⟨2, _⟩ => exact ⟨Nat.zero_le _, by show (i 2).val < 0 + 2048; have : (i 2).val < 2048 := (i 2).isLt; omega⟩

/-- A slot's elements, in its buffer. -/
def slotSet (g d : Bool) (c : Dev nD) (k : Fin 2) : Finset (Idx ((bufM g d).view.loc (c : Thread nD τ))) := (slotAcc g d k).set

theorem slots_disjoint (g d : Bool) (c : Dev nD) (k k' : Fin 2) (h : k ≠ k') : Disjoint (slotSet g d c k) (slotSet g d c k') :=
  access_disjoint _ _ _ (Finset.disjoint_left.mpr fun i hi hi' => h (Fin.ext
    (((mem_slotRect k i).mp hi).symm.trans ((mem_slotRect k' i).mp hi'))))

theorem slots_cover (g d : Bool) (c : Dev nD) : Finset.univ.biUnion (slotSet g d c) = (bufM g d).view.set :=
  access_cover (bufM g d) slotRect fun x => ⟨⟨(x 0).val, (x 0).isLt⟩, (mem_slotRect _ x).mpr rfl⟩

theorem slotAny_eq (g d : Bool) (c : Dev nD) (k : Fin 2) :
    (slotAny g d c k : sProp 𝕄) = iprop(∃ f, (bufM g d).view.loc (c : Thread nD τ) ↦[slotSet g d c k]{fullShare} f) := by
  unfold slotAny
  rw [slot_set]
  rfl

/-- A two-slot buffer, held with any contents. -/
def bufAny (g d : Bool) (c : Dev nD) : sProp 𝕄 :=
  iprop(∃ f, (bufM g d).view.loc (c : Thread nD τ) ↦[(bufM g d).view.set]{fullShare} f)

theorem buf_slots (g d : Bool) (c : Dev nD) : (bufAny g d c : sProp 𝕄) ⊢ iprop(slotAny g d c 0 ∗ slotAny g d c 1) := by
  have h (f : Buf (Elt F) ((bufM g d).view.loc (c : Thread nD τ))) :
      ((bufM g d).view.loc (c : Thread nD τ) ↦[(bufM g d).view.set]{fullShare} f : sProp 𝕄)
        = iprop(((bufM g d).view.loc (c : Thread nD τ) ↦[slotSet g d c 0]{fullShare} f)
          ∗ (bufM g d).view.loc (c : Thread nD τ) ↦[slotSet g d c 1]{fullShare} f) := by
    rw [Ring.pointsTo_sub_blocks (slotSet g d c) (slots_disjoint g d c) _ (slots_cover g d c), bigSep_fin_two]
    rfl
  unfold bufAny
  rw [slotAny_eq, slotAny_eq]
  iintro ⟨%f, H⟩
  ihave H := (Entails.of_eq (h f)) $$ H
  icases H with ⟨H0, H1⟩
  isplitl [H0]
  · iexists f; iexact H0
  · iexists f; iexact H1

include m in
theorem slots_buf (g d : Bool) (c : Dev nD) : iprop(slotAny g d c 0 ∗ slotAny g d c 1) ⊢ (bufAny g d c : sProp 𝕄) := by
  have h : bigSep Finset.univ (fun k : Fin 2 => iprop(∃ f, (bufM g d).view.loc (c : Thread nD τ) ↦[slotSet g d c k]{fullShare} f))
      ⊢ (bufAny g d c : sProp 𝕄) :=
    Ring.pointsTo_sub_blocks_join_exists (slotSet g d c) (slots_disjoint g d c) _ (slots_cover g d c) (m ((bufM g d).view.loc (c : Thread nD τ)))
  rw [bigSep_fin_two] at h
  rw [slotAny_eq, slotAny_eq]
  exact h

/-! ### The products' buffers -/

theorem acc_set (d : Bool) : (accAcc d).set = (accM d).view.set := by
  have h := access_cover (accM d) (fun _ : Unit => Rect.unit (s := S512x2048) ![0, 0] S512x2048.size inb_S512x2048_S512x2048_0_0)
    fun x => ⟨(), Rect.mem_set_unit.mpr fun a => by
      match a with
      | ⟨0, _⟩ => exact ⟨Nat.zero_le _, by show (x 0).val < 0 + 512; have : (x 0).val < 512 := (x 0).isLt; omega⟩
      | ⟨1, _⟩ => exact ⟨Nat.zero_le _, by show (x 1).val < 0 + 2048; have : (x 1).val < 2048 := (x 1).isLt; omega⟩⟩
  rw [← h]
  ext i
  simp

def accBuf (d : Bool) (c : Dev nD) : sProp 𝕄 :=
  iprop(∃ f, (accM d).view.loc (c : Thread nD τ) ↦[(accM d).view.set]{fullShare} f)

theorem acc_open (d : Bool) (c : Dev nD) : (accBuf d c : sProp 𝕄) ⊢ accAny d c := by
  unfold accBuf accAny accPts
  rw [acc_set]
  iintro ⟨%f, H⟩
  iexists _
  iexists f
  isplitr
  · ipureintro; rfl
  iexact H

theorem acc_close (d : Bool) (c : Dev nD) : (accAny d c : sProp 𝕄) ⊢ accBuf d c := by
  unfold accBuf accAny accPts
  rw [acc_set]
  iintro ⟨%t, %f, -, H⟩
  iexists f
  iexact H

/-- The scratch buffers, opened; -/
theorem scratch_open (c : Dev nD) :
    (Pipeline.scopedRest (Ix := ℕ) (Name := ℕ) (U := UU) (Lvl := ℕ) (Val := Elt F) spec0 c : sProp 𝕄)
      ⊢ iprop((accAny false c ∗ accAny true c) ∗ quad fun g d => iprop(slotAny g d c 0 ∗ slotAny g d c 1)) := by
  rw [scopedRest0_eq, ← some_whole, ← some_whole, ← some_whole, ← some_whole, ← some_whole, ← some_whole]
  unfold quad
  show iprop(accBuf false c ∗ accBuf true c ∗ bufAny false false c ∗ bufAny false true c ∗ bufAny true false c ∗ bufAny true true c) ⊢
    iprop((accAny false c ∗ accAny true c) ∗ (slotAny false false c 0 ∗ slotAny false false c 1) ∗ (slotAny false true c 0 ∗ slotAny false true c 1)
      ∗ (slotAny true false c 0 ∗ slotAny true false c 1) ∗ (slotAny true true c 0 ∗ slotAny true true c 1))
  iintro ⟨A0, A1, B0, B1, B2, B3⟩
  isplitl [A0 A1]
  · isplitl [A0]
    · iapply (acc_open (F := F) false c); iexact A0
    · iapply (acc_open (F := F) true c); iexact A1
  isplitl [B0]
  · iapply (buf_slots (F := F) false false c); iexact B0
  isplitl [B1]
  · iapply (buf_slots (F := F) false true c); iexact B1
  isplitl [B2]
  · iapply (buf_slots (F := F) true false c); iexact B2
  · iapply (buf_slots (F := F) true true c); iexact B3

include m in
/-- and closed. -/
theorem scratch_close (c : Dev nD) :
    iprop((accAny false c ∗ accAny true c) ∗ quad fun g d => iprop(slotAny g d c 0 ∗ slotAny g d c 1))
      ⊢ (Pipeline.scopedRest (Ix := ℕ) (Name := ℕ) (U := UU) (Lvl := ℕ) (Val := Elt F) spec0 c : sProp 𝕄) := by
  rw [scopedRest0_eq, ← some_whole, ← some_whole, ← some_whole, ← some_whole, ← some_whole, ← some_whole]
  unfold quad
  show iprop((accAny false c ∗ accAny true c) ∗ (slotAny false false c 0 ∗ slotAny false false c 1) ∗ (slotAny false true c 0 ∗ slotAny false true c 1)
      ∗ (slotAny true false c 0 ∗ slotAny true false c 1) ∗ (slotAny true true c 0 ∗ slotAny true true c 1)) ⊢
    iprop(accBuf false c ∗ accBuf true c ∗ bufAny false false c ∗ bufAny false true c ∗ bufAny true false c ∗ bufAny true true c)
  iintro ⟨⟨A0, A1⟩, B0, B1, B2, B3⟩
  isplitl [A0]
  · iapply (acc_close (F := F) false c); iexact A0
  isplitl [A1]
  · iapply (acc_close (F := F) true c); iexact A1
  isplitl [B0]
  · iapply (slots_buf m false false c); iexact B0
  isplitl [B1]
  · iapply (slots_buf m false true c); iexact B1
  isplitl [B2]
  · iapply (slots_buf m true false c); iexact B2
  · iapply (slots_buf m true true c); iexact B3

/-! ### The result's buffer -/

/-- Whose elements the `n`-th block a device stores are. -/
theorem mem_out (d : Bool) (c : Dev nD) (n : Fin 16) (i : S8192x4096.Idx) :
    i ∈ (outB d c n).view.set ↔ (i 0).val / 512 = (nb d ((src d)^[n.val] c)).val ∧ decide (2048 ≤ (i 1).val) = d := by
  have hx (x : S512x2048.Idx) : (outIx d c n x 0).val = 512 * (nb d ((src d)^[n.val] c)).val + (x 0).val
      ∧ (outIx d c n x 1).val = lo d + (x 1).val := by
    have e0 : (outIx d c n x 0).val = outOff d c n.val 0 + 1 * (x 0).val := rfl
    have e1 : (outIx d c n x 1).val = outOff d c n.val 1 + 1 * (x 1).val := rfl
    rw [e0, e1, outOff_eq, one_mul, one_mul]
    exact ⟨rfl, rfl⟩
  constructor
  · intro hi
    obtain ⟨x, -, rfl⟩ := Finset.mem_map.mp hi
    have b0 : (x 0).val < 512 := (x 0).isLt
    have b1 : (x 1).val < 2048 := (x 1).isLt
    obtain ⟨h0, h1⟩ := hx x
    refine ⟨by show (outIx d c n x 0).val / 512 = _; rw [h0]; omega, ?_⟩
    show decide (2048 ≤ (outIx d c n x 1).val) = d
    rw [h1]
    cases d
    · exact decide_eq_false (by show ¬ 2048 ≤ 0 + (x 1).val; omega)
    · exact decide_eq_true (by show 2048 ≤ 2048 + (x 1).val; omega)
  · rintro ⟨h0, h1⟩
    have b1 : (i 1).val < 4096 := (i 1).isLt
    obtain ⟨x, x0, x1⟩ : ∃ x : S512x2048.Idx, (x 0).val = (i 0).val % 512 ∧ (x 1).val = (i 1).val % 2048 :=
      ⟨fun | ⟨0, _⟩ => ⟨(i 0).val % 512, Nat.mod_lt _ (by decide)⟩ | ⟨1, _⟩ => ⟨(i 1).val % 2048, Nat.mod_lt _ (by decide)⟩, rfl, rfl⟩
    obtain ⟨e0, e1⟩ := hx x
    have k0 : (outIx d c n x 0).val = (i 0).val := e0.trans (by rw [x0, ← h0]; omega)
    have k1 : (outIx d c n x 1).val = (i 1).val := e1.trans (by
      rw [x1]
      cases d
      · have := of_decide_eq_false h1
        show 0 + (i 1).val % 2048 = _; omega
      · have := of_decide_eq_true h1
        show 2048 + (i 1).val % 2048 = _; omega)
    have e : outIx d c n x = i := funext fun
      | ⟨0, _⟩ => Fin.ext k0
      | ⟨1, _⟩ => Fin.ext k1
    exact Finset.mem_map.mpr ⟨x, Finset.mem_univ _, e⟩

theorem ring_reaches (d : Bool) (c : Dev nD) (j : Fin 16) : ∃ n : Fin 16, (nb d ((src d)^[n.val] c)).val = j.val := by
  revert d c j; decide +kernel

theorem ring_distinct (d : Bool) (c : Dev nD) (n n' : Fin 16) (h : nb d ((src d)^[n.val] c) = nb d ((src d)^[n'.val] c)) : n = n' := by
  revert d c n n'; decide +kernel

/-- The elements of a stored block, in the result's buffer. -/
def outSet (c : Dev nD) (t : Bool × Fin 16) : Finset (Idx ((c : Thread nD τ).loc main_v1)) := (outB t.1 c t.2).view.set

theorem outs_disjoint (c : Dev nD) (t t' : Bool × Fin 16) (h : t ≠ t') : Disjoint (outSet c t) (outSet c t') := by
  refine Finset.disjoint_left.mpr fun i hi hi' => h ?_
  obtain ⟨h0, h1⟩ := (mem_out t.1 c t.2 i).mp hi
  obtain ⟨h0', h1'⟩ := (mem_out t'.1 c t'.2 i).mp hi'
  obtain ⟨d, n⟩ := t
  obtain ⟨d', n'⟩ := t'
  have hd : d = d' := h1.symm.trans h1'
  subst hd
  exact Prod.ext rfl (ring_distinct d c n n' (Fin.ext (h0.symm.trans h0')))

theorem mem_some_out (c : Dev nD) (i : S8192x4096.Idx) : ∃ t : Bool × Fin 16, i ∈ (outB t.1 c t.2).view.set := by
  obtain ⟨n, hn⟩ := ring_reaches (decide (2048 ≤ (i 1).val)) c ⟨(i 0).val / 512, Nat.div_lt_of_lt_mul (i 0).isLt⟩
  exact ⟨(_, n), (mem_out _ c n i).mpr ⟨hn.symm, rfl⟩⟩

theorem outs_cover (c : Dev nD) : (Finset.univ.biUnion (outSet c)) = Finset.univ := by
  ext i
  refine ⟨fun _ => Finset.mem_univ _, fun _ => ?_⟩
  obtain ⟨t, ht⟩ := mem_some_out c i
  exact Finset.mem_biUnion.mpr ⟨t, Finset.mem_univ _, ht⟩

theorem out_blocks (c : Dev nD) (f : Buf (Elt F) ((c : Thread nD τ).loc main_v1)) :
    ((c : Thread nD τ).loc main_v1 ↦{fullShare} f : sProp 𝕄)
      = iprop((bigSep (Finset.Ico 0 16) fun n => (c : Thread nD τ).loc main_v1 ↦[outSet c (false, blk n)]{fullShare} f)
        ∗ bigSep (Finset.Ico 0 16) fun n => (c : Thread nD τ).loc main_v1 ↦[outSet c (true, blk n)]{fullShare} f) := by
  rw [Ring.pointsTo_blocks (outSet c) (outs_disjoint c) (outs_cover c),
    ← over_puts fun d n => ((c : Thread nD τ).loc main_v1 ↦[outSet c (d, blk n)]{fullShare} f : sProp 𝕄)]
  exact bigSep_congr fun t _ => by rw [blk_val]

/-- The result's buffer is dealt in blocks, -/
theorem out_open (c : Dev nD) (f : Buf (Elt F) ((c : Thread nD τ).loc main_v1)) :
    ((c : Thread nD τ).loc main_v1 ↦{fullShare} f : sProp 𝕄)
      ⊢ iprop(bigSep (Finset.Ico 0 16) (outAny false c) ∗ bigSep (Finset.Ico 0 16) (outAny true c)) := by
  have h (d : Bool) : (bigSep (Finset.Ico 0 16) fun n => ((c : Thread nD τ).loc main_v1 ↦[outSet c (d, blk n)]{fullShare} f : sProp 𝕄))
      ⊢ bigSep (Finset.Ico 0 16) (outAny d c) := bigSep_mono fun n _ => by
    unfold outAny
    show ((c : Thread nD τ).loc main_v1 ↦[outSet c (d, blk n)]{fullShare} f : sProp 𝕄) ⊢ _
    iintro H
    iexists f
    iexact H
  rw [out_blocks]
  exact BI.sep_mono (h false) (h true)

/-- A device's result buffer holding the result. -/
def outWhole (c : Dev nD) : Buf (Elt F) ((c : Thread nD τ).loc main_v1) := outV m

/-- and joined when all of them hold the result. -/
theorem out_close (c : Dev nD) :
    iprop(stored m false c 16 ∗ stored m true c 16) ⊢ ((c : Thread nD τ).loc main_v1 ↦{fullShare} outWhole m c : sProp 𝕄) := by
  rw [out_blocks]
  unfold stored
  rw [Finset.range_eq_Ico]
  exact BI.Entails.refl _

end Cert.Proof

end
-- ==== Proof.Entry.lean ====
/-
  What the body starts from, put together from what the launch deals, and what it ends with, taken apart.
-/
module

public import proofs.«01_k».proof.Proof.Buffers

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

/-! ### The start -/

/-- The tokens of the blocks received by the neighbour, -/
def nTok (g d : Bool) (c : Dev nD) : sProp 𝕄 :=
  bigSep (Finset.Ico 0 15) fun i => dutyTok ER (cellAt (nb d c) (.sR g d (par i))) (i / 2) false
/-- of the blocks sent, -/
def oTok (g d : Bool) (c : Dev nD) : sProp 𝕄 :=
  bigSep (Finset.Ico 0 15) fun i => dutyTok ER (cellAt c (.sS g d (par i))) (i / 2) false
/-- of the products stored. -/
def wTok (d : Bool) (c : Dev nD) : sProp 𝕄 :=
  bigSep (Finset.Ico 0 16) fun n => dutyTok ER (cellAt c (.st d (par n))) (n / 2) false

theorem payToks_eq (c : Dev nD) : (payToks c : sProp 𝕄)
    ⊢ iprop((dutyTok ER (cellAt (nb false c) .bar) 0 false ∗ dutyTok ER (cellAt (nb true c) .bar) 0 true)
      ∗ quad (fun g d => gTok g d c 0) ∗ quad (fun g d => nTok g d c) ∗ quad (fun g d => oTok g d c) ∗ wTok false c ∗ wTok true c) := by
  have hg : (bigSep Finset.univ fun q : Bool × Bool × Fin 15 => (dutyTok ER (cellAt (src q.2.1 c) (.cr q.1 q.2.1)) q.2.2.val false : sProp 𝕄))
      = quad fun g d => gTok g d c 0 := over_quad fun g d i => dutyTok ER (cellAt (src d c) (.cr g d)) i false
  have hn : (bigSep Finset.univ fun q : Bool × Bool × Fin 15 => (dutyTok ER (cellAt (nb q.2.1 c) (.sR q.1 q.2.1 (par q.2.2.val))) (q.2.2.val / 2) false : sProp 𝕄))
      = quad fun g d => nTok g d c := over_quad fun g d i => dutyTok ER (cellAt (nb d c) (.sR g d (par i))) (i / 2) false
  have ho : (bigSep Finset.univ fun q : Bool × Bool × Fin 15 => (dutyTok ER (cellAt c (.sS q.1 q.2.1 (par q.2.2.val))) (q.2.2.val / 2) false : sProp 𝕄))
      = quad fun g d => oTok g d c := over_quad fun g d i => dutyTok ER (cellAt c (.sS g d (par i))) (i / 2) false
  have hw : (bigSep Finset.univ fun q : Bool × Fin 16 => (dutyTok ER (cellAt c (.st q.1 (par q.2.val))) (q.2.val / 2) false : sProp 𝕄))
      = iprop(wTok false c ∗ wTok true c) := over_puts fun d n => dutyTok ER (cellAt c (.st d (par n))) (n / 2) false
  unfold payToks
  rw [bigSep_univ_sum, over_bool, bigSep_univ_prod, over_bool]
  show iprop(((dutyTok ER (cellAt (nb false c) .bar) 0 false ∗ dutyTok ER (cellAt (nb true c) .bar) 0 true)
      ∗ (bigSep Finset.univ fun q : Bool × Bool × Fin 15 => dutyTok ER (cellAt (src q.2.1 c) (.cr q.1 q.2.1)) q.2.2.val false)
      ∗ (bigSep Finset.univ fun q : Bool × Bool × Fin 15 => dutyTok ER (cellAt (nb q.2.1 c) (.sR q.1 q.2.1 (par q.2.2.val))) (q.2.2.val / 2) false))
      ∗ (bigSep Finset.univ fun q : Bool × Bool × Fin 15 => dutyTok ER (cellAt c (.sS q.1 q.2.1 (par q.2.2.val))) (q.2.2.val / 2) false)
      ∗ (bigSep Finset.univ fun q : Bool × Fin 16 => dutyTok ER (cellAt c (.st q.1 (par q.2.val))) (q.2.val / 2) false)) ⊢ _
  rw [hg, hn, ho, hw]
  iintro ⟨⟨HB, HG, HN⟩, HO, HW⟩
  iframe

theorem sTok_intro (g d : Bool) (c : Dev nD) : iprop(oTok g d c ∗ nTok g d c ∗ cTok g d c) ⊢ (sTok g d c 0 : sProp 𝕄) := by
  unfold oTok nTok cTok sTok sItem
  rw [bigSep_sep', bigSep_sep']

theorem pTok_intro (d : Bool) (c : Dev nD) : iprop(wTok d c ∗ bigSep (Finset.Ico 0 16) (outAny d c)) ⊢ (pTok d c 0 : sProp 𝕄) := by
  unfold wTok pTok pItem
  rw [bigSep_sep']

theorem two_zero (c : Dev nD) (f : Fin 2 → CK) : iprop(at' c (f 0) 0 ∗ at' c (f 1) 0) ⊢ (two c f 0 : sProp 𝕄) := by
  unfold two
  exact BI.Entails.refl _

theorem chan_intro (g d : Bool) (c : Dev nD) :
    iprop(at' c (.cr g d) 0 ∗ (at' c (.sS g d 0) 0 ∗ at' c (.sS g d 1) 0) ∗ (at' c (.sR g d 0) 0 ∗ at' c (.sR g d 1) 0)
      ∗ gTok g d c 0 ∗ nTok g d c ∗ oTok g d c ∗ cTok g d c ∗ rTok g d c 0 ∗ slotAny g d c 0 ∗ slotAny g d c 1)
      ⊢ (chan g d c : sProp 𝕄) := by
  have hs : iprop(slotAny g d c 0 ∗ slotAny g d c 1) ⊢ (iprop(slotAny g d c (dstP g (par 0)) ∗ slotAny g d c (srcP g (par 0))) : sProp 𝕄) := by
    cases g
    · show iprop(slotAny false d c 0 ∗ slotAny false d c 1) ⊢ iprop(slotAny false d c 0 ∗ slotAny false d c 1)
      iintro H; iexact H
    · show iprop(slotAny true d c 0 ∗ slotAny true d c 1) ⊢ iprop(slotAny true d c 1 ∗ slotAny true d c 0)
      iintro ⟨H1, H2⟩; isplitl [H2] <;> iassumption
  unfold chan base
  iintro ⟨Hc, HS, HR, HG, HN, HO, HC, HT, Hs⟩
  ihave HS := (two_zero (F := F) c (.sS g d)) $$ HS
  ihave HR := (two_zero (F := F) c (.sR g d)) $$ HR
  ihave Hk := (sTok_intro (F := F) g d c) $$ [HO HN HC]
  · iframe
  ihave Hs := hs $$ Hs
  iframe

/-- What the launch deals a device, the levels and the scratch buffers apart. -/
def dealt (c : Dev nD) : sProp 𝕄 :=
  iprop((bigSep Finset.univ fun k : CK => at' c k 0) ∗ payToks c
    ∗ (cred (tallyAt (cellAt c .bar) 0 2) ∗ quad (fun g d => cTok g d c) ∗ quad (fun g d => rTok g d c 0))
    ∗ bigSep (Finset.Ico 0 16) (outAny false c) ∗ bigSep (Finset.Ico 0 16) (outAny true c))

/-- The scratch buffers. -/
def scratch (c : Dev nD) : sProp 𝕄 :=
  iprop((accAny false c ∗ accAny true c) ∗ quad fun g d => iprop(slotAny g d c 0 ∗ slotAny g d c 1))

theorem given_intro (c : Dev nD) :
    iprop(dealt c ∗ scratch c ∗ owing c 0 ∗ xPts m c ∗ wPts m c) ⊢ (given m c : sProp 𝕄) := by
  unfold dealt scratch given meets puts
  rw [over_cells]
  iintro ⟨⟨⟨Hb, Hcr, HsS, HsR, HstF, HstT⟩, Ht, ⟨Hc, HC, HR⟩, HoF, HoT⟩, ⟨Ha, Hs⟩, HO, Hx, Hw⟩
  ihave Ht := (payToks_eq (F := F) c) $$ Ht
  icases Ht with ⟨⟨HbF, HbT⟩, HG, HN, Ho, HwF, HwT⟩
  unfold quad
  icases Hcr with ⟨Hcr0, Hcr1, Hcr2, Hcr3⟩
  icases HsS with ⟨HsS0, HsS1, HsS2, HsS3⟩
  icases HsR with ⟨HsR0, HsR1, HsR2, HsR3⟩
  icases HC with ⟨HC0, HC1, HC2, HC3⟩
  icases HR with ⟨HR0, HR1, HR2, HR3⟩
  icases HG with ⟨HG0, HG1, HG2, HG3⟩
  icases HN with ⟨HN0, HN1, HN2, HN3⟩
  icases Ho with ⟨Ho0, Ho1, Ho2, Ho3⟩
  icases Hs with ⟨Hs0, Hs1, Hs2, Hs3⟩
  isplitl [HO]
  · iexact HO
  isplitl [HbF HbT Hc Hb]
  · unfold at'
    icases Hb with ⟨Hb, -⟩
    iframe
  isplitl [Hx]
  · iexact Hx
  isplitl [Hw]
  · iexact Hw
  isplitl [Ha]
  · iexact Ha
  isplitl [Hcr0 HsS0 HsR0 HC0 HR0 HG0 HN0 Ho0 Hs0 Hcr1 HsS1 HsR1 HC1 HR1 HG1 HN1 Ho1 Hs1 Hcr2 HsS2 HsR2 HC2 HR2 HG2 HN2 Ho2 Hs2 Hcr3 HsS3 HsR3 HC3 HR3 HG3 HN3 Ho3 Hs3]
  · isplitl [Hcr0 HsS0 HsR0 HC0 HR0 HG0 HN0 Ho0 Hs0]
    · iapply (chan_intro (F := F) false false c); iframe
    isplitl [Hcr1 HsS1 HsR1 HC1 HR1 HG1 HN1 Ho1 Hs1]
    · iapply (chan_intro (F := F) false true c); iframe
    isplitl [Hcr2 HsS2 HsR2 HC2 HR2 HG2 HN2 Ho2 Hs2]
    · iapply (chan_intro (F := F) true false c); iframe
    · iapply (chan_intro (F := F) true true c); iframe
  isplitl [HstF HwF HoF]
  · isplitl [HstF]
    · iapply (two_zero (F := F) c (.st false)); iexact HstF
    · iapply (pTok_intro (F := F) false c); iframe
  · isplitl [HstT]
    · iapply (two_zero (F := F) c (.st true)); iexact HstT
    · iapply (pTok_intro (F := F) true c); iframe

/-! ### The end -/

/-- A device is past the last round of a cell of its own. -/
def past (c : Dev nD) (k : CK) : sProp 𝕄 := atPos ER (cellAt c k) (rounds k) ∅ 0

theorem at_past (c : Dev nD) (k : CK) (r : ℕ) (hr : r = rounds k) : (at' c k r : sProp 𝕄) ⊢ past c k := by
  subst hr
  unfold at' past
  iintro ⟨H, -⟩
  iexact H

theorem bar_past (c : Dev nD) : (atPos ER (cellAt c .bar) 1 ∅ 0 : sProp 𝕄) ⊢ past c .bar := BI.Entails.refl _

theorem chan_past (g d : Bool) (c : Dev nD) : (chanEnd g d c : sProp 𝕄)
    ⊢ iprop(past c (.cr g d) ∗ (past c (.sS g d 0) ∗ past c (.sS g d 1)) ∗ (past c (.sR g d 0) ∗ past c (.sR g d 1))
      ∗ slotAny g d c 0 ∗ slotAny g d c 1) := by
  unfold chanEnd
  show iprop((at' c (.sS g d 1) 7 ∗ at' c (.sS g d 0) 8) ∗ (at' c (.sR g d 1) 7 ∗ at' c (.sR g d 0) 8) ∗ at' c (.cr g d) 15 ∗ slotAny g d c 0 ∗ slotAny g d c 1) ⊢ _
  iintro ⟨⟨HS1, HS0⟩, ⟨HR1, HR0⟩, Hc, Hs⟩
  ihave HS1 := (at_past (F := F) c (.sS g d 1) 7 rfl) $$ HS1
  ihave HS0 := (at_past (F := F) c (.sS g d 0) 8 rfl) $$ HS0
  ihave HR1 := (at_past (F := F) c (.sR g d 1) 7 rfl) $$ HR1
  ihave HR0 := (at_past (F := F) c (.sR g d 0) 8 rfl) $$ HR0
  ihave Hc := (at_past (F := F) c (.cr g d) 15 rfl) $$ Hc
  iframe

theorem puts_past (d : Bool) (c : Dev nD) : (putsEnd m d c : sProp 𝕄)
    ⊢ iprop((past c (.st d 0) ∗ past c (.st d 1)) ∗ stored m d c 16) := by
  unfold putsEnd
  show iprop((at' c (.st d 0) 8 ∗ at' c (.st d 1) 8) ∗ stored m d c 16) ⊢ _
  iintro ⟨⟨H0, H1⟩, Hs⟩
  ihave H0 := (at_past (F := F) c (.st d 0) 8 rfl) $$ H0
  ihave H1 := (at_past (F := F) c (.st d 1) 8 rfl) $$ H1
  iframe

/-- What a device gives back: its result buffer holding the result, the scratch buffers, the closed cells. -/
def back (c : Dev nD) : sProp 𝕄 :=
  iprop(((c : Thread nD τ).loc main_v1 ↦{fullShare} outWhole m c) ∗ scratch c ∗ bigSep Finset.univ fun k : CK => semVal (cellAt c k) 0)

theorem left_elim (K : Dev nD × CK → ℕ) (c : Dev nD) :
    iprop(env m K ∗ left m c) ⊢ |={Set.univ}=> iprop(owing c 123 ∗ xPts m c ∗ wPts m c ∗ back m c) := by
  have hc : iprop(env m K ∗ bigSep Finset.univ (past c)) ⊢ |={Set.univ}=> bigSep Finset.univ fun k : CK => semVal (cellAt c k) 0 :=
    close_cells m K c
  rw [over_cells (past c)] at hc
  unfold quad at hc
  unfold left back scratch
  iintro ⟨#He, HO, Hb, Hx, Hw, Ha, ⟨H0, H1, H2, H3⟩, HpF, HpT⟩
  ihave Hb := (bar_past (F := F) c) $$ Hb
  ihave H0 := (chan_past (F := F) false false c) $$ H0
  ihave H1 := (chan_past (F := F) false true c) $$ H1
  ihave H2 := (chan_past (F := F) true false c) $$ H2
  ihave H3 := (chan_past (F := F) true true c) $$ H3
  icases H0 with ⟨A0, B0, C0, D0⟩
  icases H1 with ⟨A1, B1, C1, D1⟩
  icases H2 with ⟨A2, B2, C2, D2⟩
  icases H3 with ⟨A3, B3, C3, D3⟩
  ihave HpF := (puts_past m false c) $$ HpF
  ihave HpT := (puts_past m true c) $$ HpT
  icases HpF with ⟨EF, SF⟩
  icases HpT with ⟨ET, ST⟩
  ihave Hout := (out_close m c) $$ [SF ST]
  · isplitl [SF] <;> iassumption
  imod hc $$ [Hb A0 A1 A2 A3 B0 B1 B2 B3 C0 C1 C2 C3 EF ET] with HV
  · isplitr
    · iexact He
    isplitl [Hb]
    · iexact Hb
    isplitl [A0 A1 A2 A3]
    · iframe
    isplitl [B0 B1 B2 B3]
    · iframe
    isplitl [C0 C1 C2 C3]
    · iframe
    isplitl [EF]
    · iexact EF
    iexact ET
  imodintro
  unfold quad
  isplitl [HO]
  · iexact HO
  isplitl [Hx]
  · iexact Hx
  isplitl [Hw]
  · iexact Hw
  isplitl [Hout]
  · iexact Hout
  isplitr [HV]
  · isplitl [Ha]
    · iexact Ha
    isplitl [D0]; · iexact D0
    isplitl [D1]; · iexact D1
    isplitl [D2]; · iexact D2
    iexact D3
  iexact HV

end Cert.Proof

end
-- ==== Proof.Launch.lean ====
/-
  The launch: the run of @main on the sixteen devices, for any float values.
-/
module

public import proofs.«01_k».proof.Proof.Entry
public import Idealize.ShloMosaic.Lib.Pipeline.CollectiveSegs

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig ℕ (Elt F) ℕ UU ℕ

variable (m : (ℓ : Loc nD τ sig) → Buf (Elt F) ℓ)

variable (ρ : Dev nD → PrngReg)

/-- The start memory, every counter at zero. -/
abbrev s₀ : MemSt nD τ sig (Elt F) := ⟨m, fun _ => 0, ρ⟩

/-- What a device starts from, the scratch buffers apart. -/
def begun (c : Dev nD) : sProp 𝕄 := iprop((∃ K, env m K) ∗ dealt c)

/-- What the run is told of the one grid point: the two arrays, each copied whole to its staging buffer, what the
    device holds before and after, and what it owes. -/
def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xs m c
    | ⟨1, _⟩ => ws m c
  Φ t := match t with
    | ⟨0, _⟩ => iprop(begun m c ∗ scratch c)
    | ⟨_ + 1, _⟩ => back m c
  q _ := fullShare
  owed t := match t with
    | ⟨0, _⟩ => owed c 0
    | ⟨_ + 1, _⟩ => 0

theorem both_windows (Φ : Fin cfg0.W → sProp 𝕄) : bigSep Finset.univ Φ = iprop(Φ (0 : Fin 2) ∗ Φ (1 : Fin 2)) := bigSep_W0 Φ

/-- Either window is fetched at the one point. -/
theorem fetched (w : Fin cfg0.W) (t : Fin cfg0.N) : (cfg0.win w).fetch t = true := by
  rw [fin_N0 t]; fin_cases w <;> rfl

/-- A whole buffer owned at contents is the buffer at those contents. -/
theorem whole_owned (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at contents. -/
abbrev staged (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def before (c : Dev nD) : sProp 𝕄 :=
  iprop((begun m c ∗ scratch c) ∗ (dats m ρ 0 c).owesAt 0 t0_0.castSucc
    ∗ (∃ d, staged c cc0_stg0_0 ((dats m ρ 0 c).before (0 : Fin 2) t0_0 d))
    ∗ (∃ d, staged c cc0_stg1_0 ((dats m ρ 0 c).before (1 : Fin 2) t0_0 d)))

def after (c : Dev nD) : sProp 𝕄 :=
  iprop(back m c ∗ (dats m ρ 0 c).owesAt 0 t0_0.succ ∗ staged c cc0_stg0_0 (xs m c) ∗ staged c cc0_stg1_0 (ws m c))

theorem runs_device (c : Dev nD) (k : Dev nD → Pg F PUnit) (Q : PUnit → sProp 𝕄) : Runs c (k c) Q ⊢ Runs c (.op .deviceId k) Q := by
  unfold Runs
  rw [wp_deviceId]

set_option maxRecDepth 65536 in
theorem runs_body (c : Dev nD) (Q : PUnit → sProp 𝕄) : Runs c (bodyAt xM wM c) (fun a => iprop(|={Set.univ}=> Q a)) ⊢ Runs c (body xM wM) Q := by
  unfold body
  exact (wp_fupd _ _ _ _ _).trans (runs_device c (fun c => bodyAt xM wM c) Q)

theorem owing_done (c : Dev nD) : (owing c 123 : sProp 𝕄) ⊢ iprop(∃ W, owes (c : Thread nD τ) 0 W) := by
  unfold owing
  rw [owed_end c (Nat.le_refl 123)]

theorem run_point (c : Dev nD) : before m ρ c ⊢ Runs c (body xM wM) (fun _ => after m ρ c) := by
  unfold before begun
  iintro ⟨⟨⟨⟨%K, #He⟩, Hd⟩, Hs⟩, Ho, ⟨%d0, %g0, %hg0, Hx⟩, %d1, %g1, %hg1, Hw⟩
  have hx : g0 = xs m c := by rw [hg0]; unfold Dat.before; rw [if_pos (fetched (0 : Fin 2) t0_0)]; rfl
  have hw : g1 = ws m c := by rw [hg1]; unfold Dat.before; rw [if_pos (fetched (1 : Fin 2) t0_0)]; rfl
  subst hx hw
  iapply (runs_body c fun _ => after m ρ c)
  iapply (run_body m K c fun _ => iprop(|={Set.univ}=> after m ρ c)) $$ [Hd Hs Ho Hx Hw]
  · isplitr
    · iexact He
    iapply (given_intro m c)
    isplitl [Hd]
    · iexact Hd
    isplitl [Hs]
    · iexact Hs
    isplitl [Ho]
    · unfold Dat.owesAt Pipeline.owesWithin
      icases Ho with ⟨%W, %hW, HO⟩
      unfold owing
      iexists W
      iexact HO
    unfold xPts wPts
    isplitl [Hx]
    · iexact Hx
    iexact Hw
  iintro Hl
  imod (left_elim m K c) $$ [Hl] with ⟨HO, Hx, Hw, Hb⟩
  · isplitr
    · iexact He
    iexact Hl
  imodintro
  unfold after xPts wPts
  isplitl [Hb]
  · iexact Hb
  isplitl [HO]
  · ihave HO := (owing_done (F := F) c) $$ HO
    icases HO with ⟨%W, HO⟩
    unfold Dat.owesAt Pipeline.owesWithin
    rw [show (dats m ρ 0 c).owed t0_0.succ = 0 from rfl]
    iexists W
    isplitr
    · ipureintro; exact fun _ _ => Or.inl trivial
    iexact HO
  isplitl [Hx]
  · iexists _
    isplitr
    · (ipureintro; rfl)
    iexact Hx
  iexists _
  isplitr
  · (ipureintro; rfl)
  iexact Hw

set_option maxRecDepth 65536 in
/-- The body at the one grid point does what the run is told of it. -/
theorem body_obligation (c : Dev nD) : BodyObligation (dats (F := F) m ρ 0 c) (defs₀ (F := F)) 𝒱₀ 0 Set.univ := fun t => by
  rw [fin_N0 t]
  rw [both_windows, both_windows]
  simp only [whole_owned]
  show before m ρ c ⊢ Runs c (cc0_body (F := F) xM (Memref.isWhole_whole _) wM (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 cc0_scratch19) (fun _ => after m ρ c)
  rw [body_eq]
  exact run_point m ρ c

/-! ### The launch's side conditions -/

def u₀ : UU := (initOf (Pipeline.cells cfgs cellOf_inj) (Pipeline.launchToks cfgs cellOf_inj), initOf allCells allToks)

theorem share_eq (c : Dev nD) (w : Fin cfg0.W) : (dats m ρ 0 c).share w = fullShare := by unfold Dat.share; split <;> rfl

theorem begin_intro (c : Dev nD) :
    iprop(Pipeline.unscopedRestP Pipeline.Prefetch.none cfg0.spec c (fun b => m ((c : Thread nD τ).loc b)) ∗ levAts L lv
        ∗ Pipeline.launchCred (fun d => owed d 0) c ∗ prngReg c (ρ c) ∗ G' m c)
      ⊢ |={Set.univ}=> iprop(begun m c ∗ emp) := by
  rw [Pipeline.unscopedRestP_none, unscopedRest0_eq]
  iintro ⟨Hout, #Hlev, Hcr, -, HG⟩
  ihave Hc := (creds (F := F) c) $$ Hcr
  ihave Ho := (out_open c (m ((c : Thread nD τ).loc main_v1))) $$ Hout
  unfold G'
  icases HG with ⟨%K, Hcells, Hat, Ht⟩
  imodintro
  unfold begun dealt
  isplitl
  · isplitl [Hcells]
    · iexists K
      unfold env
      unfold cells
      isplitl [Hcells]
      · iexact Hcells
      iexact Hlev
    isplitl [Hat]
    · iexact Hat
    isplitl [Ht]
    · iexact Ht
    isplitl [Hc]
    · iexact Hc
    iexact Ho
  · iempintro

theorem point_intro (c : Dev nD) :
    iprop(begun m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(begun m c ∗ scratch c) from rfl]
  iintro ⟨Hb, -, Hr⟩
  isplitl [Hb]
  · iexact Hb
  unfold scratch
  iapply (scratch_open (F := F) c)
  iexact Hr

/-- What a device keeps past the launch: the result buffer and its barrier counter. -/
def kept (c : Dev nD) : sProp 𝕄 := iprop(((c : Thread nD τ).loc main_v1 ↦{fullShare} outWhole m c) ∗ unscopedSems0 c)

theorem point_exit (c : Dev nD) :
    (dats m ρ 0 c).Φ (Fin.last cfg0.N) ⊢ iprop(kept m c ∗ Pipeline.ownSems0 osem c ∗ Pipeline.scopedRest cfg0.spec c) := by
  rw [show (dats m ρ 0 c).Φ (Fin.last cfg0.N) = back m c from rfl]
  unfold back scratch kept
  iintro ⟨Ho, Hs, Hv⟩
  ihave Hv := (sems_eq (F := F) c).2 $$ Hv
  icases Hv with ⟨H1, H2⟩
  ihave Hs := (scratch_close m c) $$ Hs
  isplitl [Ho H2]
  · isplitl [Ho] <;> iassumption
  isplitl [H1] <;> iassumption

/-- A staging semaphore is none of the kernel's own. -/
theorem stage_other (w : Fin cfg0.W) (s : Fin (cfg0.win w).nbuf) (k : CK) : csem k ≠ .dma ((cfg0.win w).sem s) := by
  revert k
  fin_cases w <;> fin_cases s <;> decide

theorem lv_stage (c : Dev nD) (w : Fin cfg0.W) (s : Fin (cfg0.win w).nbuf) : lv ((c : Thread nD τ), .dma ((cfg0.win w).sem s)) 0 = 0 := by
  show lvOf (ckOf _) 0 = 0
  unfold ckOf
  rw [dif_neg fun ⟨k, hk⟩ => stage_other w s k hk]
  rfl

theorem waits (c : Dev nD) : (levAts L lv : sProp 𝕄) ⊢ Pipeline.cellsWaits cfgs (dats m ρ) 0 0 c :=
  Pipeline.cellsWaits_intro cfgs (dats m ρ) 0 0 c fun w s t => by
    rcases t with ⟨_ | _, ht⟩
    · refine mayWait_lt c _ (by omega) fun k _ => ?_
      rw [lv_stage c w s, lvOf_pay]
      rcases k with k | k
      · exact Nat.one_pos
      · exact (pos_lt (.inr k)).1
    · show _ ⊢ MayWait _ _ _ 0
      rw [← owed_end c (Nat.le_refl 123)]
      refine mayWait_lt c _ (by omega) fun k hk => absurd (pos_lt k).2 (by omega)

/-- What the run leaves: on every device the result, its two arguments as they were, every counter at zero. -/
def Ends (r : PUnit × MemSt nD τ sig (Elt F)) : Prop :=
  (∀ c : Dev nD, r.2.mem ((c : Thread nD τ).loc main_v1) = outWhole m c
      ∧ r.2.mem ((c : Thread nD τ).loc main_arg0) = m ((c : Thread nD τ).loc main_arg0)
      ∧ r.2.mem ((c : Thread nD τ).loc main_arg1) = m ((c : Thread nD τ).loc main_arg1))
    ∧ r.2.sem = fun _ => 0

/-- A device's result buffer read against a memory. -/
theorem kept_read (c : Dev nD) (s' : Phys nD τ sig (Elt F)) :
    iprop(((c : Thread nD τ).loc main_v1 ↦{fullShare} outWhole m c : sProp 𝕄) ∗ SI s')
      ⊢ iprop(⌜s'.mem.mem ((c : Thread nD τ).loc main_v1) = outWhole m c⌝ ∗ SI s') := by
  have h := pointsTo_read_all (Ix := ℕ) (Name := ℕ) (U := UU) (Lvl := ℕ) {c} (fun c : Dev nD => (c : Thread nD τ).loc main_v1) (outWhole m) s'
  rw [bigSep_singleton] at h
  iintro H
  ihave H := h $$ H
  icases H with ⟨%h, HS⟩
  isplitr
  · ipureintro; exact h c (Finset.mem_singleton_self c)
  iexact HS

set_option maxRecDepth 65536 in
/-- Every weakly fair run of @main on the sixteen devices, from any memory with zero counters, ends as `Ends` says. -/
theorem run_main : θ_run defs (onTc (τ := τ) (main (F := F))) (s₀ m ρ) (Ends m) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => owed d 0) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := begun m) (Y := kept m) (Z := fun _ => iprop(emp))
    (hX := begin_intro m ρ) (hin := point_intro m ρ) (hout := point_exit m ρ)
    (QY := fun c s => s.mem ((c : Thread nD τ).loc main_v1) = outWhole m c ∧ ∀ sm : SemLoc sig, sm.isScoped .tc = false → s.sem ((c.tc : Thread nD τ), sm) = 0)
    (hY := fun c s' => by
      unfold kept
      iintro ⟨⟨Ho, Hu⟩, -, HSI⟩
      imod (Pipeline.unscopedSems0_read (X := unscopedSems0 c) (c := c) fupd_intro s') $$ [Hu HSI] with ⟨%h, HSI⟩
      · isplitl [Hu] <;> iassumption
      ihave H := (kept_read m c s') $$ [Ho HSI]
      · isplitl [Ho] <;> iassumption
      icases H with ⟨%hm, HSI⟩
      imodintro
      isplitr
      · ipureintro; exact ⟨hm, h⟩
      iexact HSI)
    (hQ := fun _ h hs => ⟨fun c => ⟨(h c).2.2.1, ((h c).1 (0 : Fin 2)).trans ((dats (F := F) m ρ 0 c).arrAt_in (0 : Fin 2) rfl _), ((h c).1 (1 : Fin 2)).trans ((dats (F := F) m ρ 0 c).arrAt_in (1 : Fin 2) rfl _)⟩, sem_eq_zero hs fun c => (h c).2.2.2⟩)

end Cert.Proof

end
-- ==== Proof.Frames.lean ====
/-
  The programs terminate, keep their arguments and leave every semaphore counter at zero.
-/
module

public import proofs.«01_k».proof.Defs
public import proofs.«01_k».proof.Proof.Gen.Kernel
public import proofs.«01_k».proof.Proof.Gen.ReferenceIdeal.Run
public import proofs.«01_k».proof.Proof.Gen.UnclippedIdeal.Run
public import proofs.«01_k».proof.Proof.Gen.Pre_bounded_KernelIdeal
public import proofs.«01_k».proof.Proof.Gen.Pre_bounded_ReferenceIdeal
public import proofs.«01_k».proof.Proof.Launch

@[expose] public section

noncomputable section

namespace Cert.Proof

open Idealize.ShloMosaic
open Idealize.ShloMosaic.TcCoe
open Idealize.SL.Sem

set_option maxRecDepth 100000 in
/-- The two prints of the kernel have the same body. -/
theorem kernels_eq : Cert.Kernel.defs₀ (F := Bits) = Cert.KernelIdeal.defs₀ := by
  unfold Cert.Kernel.defs₀ Cert.KernelIdeal.defs₀
  refine congrArg Defs.onTc (funext fun l => funext fun a => ?_)
  match l, a with
  | ⟨0, _⟩, (t, s) => rfl

/-- So they have the same bodies in all. -/
theorem defs_eq : Cert.Kernel.defs (F := Bits) = Cert.KernelIdeal.defs := by
  unfold Cert.Kernel.defs Cert.KernelIdeal.defs
  exact congrArg (Pipeline.defs Cert.KernelIdeal.pcfgs) kernels_eq

/-- The kernel at the machine's floats terminates, keeps its arguments and leaves every counter at zero. -/
theorem frame_kernel : Cert.quiescent_Kernel := fun m ρ _ => by
  rw [defs_eq]
  exact (θ_run Cert.KernelIdeal.defs _ _).mono (fun r (h : Ends m r) => ⟨fun c => (h.1 c).2, h.2⟩) (run_main (F := Bits) m ρ)

/-- So does the kernel over the extended reals, -/
theorem frame_ideal : Cert.quiescent_KernelIdeal := fun m ρ _ =>
  (θ_run Cert.KernelIdeal.defs _ _).mono (fun r (h : Ends m r) => ⟨fun c => (h.1 c).2, h.2⟩) (run_main (F := Ideal) m ρ)

/-- so does the reference -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- and the reference without the clip. -/
theorem frame_unclipped : Cert.quiescent_UnclippedIdeal := fun m ρ _ =>
  (θ_run Cert.UnclippedIdeal.defs _ _).mono (fun r h => ⟨fun c => (h c).2, sem_eq_zero_of_no_sems (by decide) r.2⟩)
    (Cert.UnclippedIdeal.Value.run (F := Ideal) m ρ)

/-- The same two where the inputs are bounded: they hold for every input. -/
theorem frame_ideal_bounded : Cert.quiescent_KernelIdeal_pre_bounded_KernelIdeal := fun m ρ _ => frame_ideal m ρ trivial

theorem frame_reference_bounded : Cert.quiescent_ReferenceIdeal_pre_bounded_ReferenceIdeal :=
  fun m ρ _ => frame_reference m ρ trivial

end Cert.Proof

end
-- ==== Proof.Product.lean ====
/-
  What the ring computes over the extended reals: every device's sum ends as the sum over all devices of their products,
  which is the product of the whole arrays.
-/
module

public import proofs.«01_k».proof.Proof.Values
public import Idealize.ShloMosaic.Lib.MatmulPlain
public import Idealize.ShloMosaic.Lib.Pipeline.Value
public import Idealize.ShloMosaic.Lib.Layout

@[expose] public section

noncomputable section

namespace Cert.Proof

open Cert.KernelIdeal Cert.KernelIdeal.Gen
open Idealize.ShloMosaic Idealize.ShloMosaic.TcCoe Idealize.ShloMosaic.ValueIdx

/-! ### The sums, for any float values -/

section Any

variable {F : FTy → Type} [FloatOps F] (m : (ℓ : Loc nD τ sig) → Buf (Elt F) ℓ)

theorem ofSlot_asSlot (v : FVec F S512x2048 .f32) : ofSlot (asSlot v) = v := shapeCast_shapeCast _ _ _

theorem accV_eq (v : FVec F S512x2048 .f32) : accV v = v := shapeCast_self _ _

/-- The partial sum device `c` sends at step `s`, as a matrix. -/
def partV (d : Bool) (s : ℕ) (c : Dev nD) : FVec F S512x2048 .f32 := ofSlot (sumV m d s c)

theorem partV_zero (d : Bool) (c : Dev nD) : partV m d 0 c = prodV m d c 0 := ofSlot_asSlot _

theorem partV_succ (d : Bool) (s : ℕ) (c : Dev nD) :
    partV m d (s + 1) c = addf (partV m d s (src d c)) (prodV m d c (s + 1)) := by
  show ofSlot (asSlot _) = _
  rw [ofSlot_asSlot, accV_eq]
  rfl

theorem ownV_eq (d : Bool) (c : Dev nD) : ofSlot (ownV m d c) = siluV (partV m d 15 c) := ofSlot_asSlot _

end Any

/-! ### Over the extended reals -/

variable (m : (ℓ : Loc nD τ sig) → Buf (Elt Ideal) ℓ)

/-- Device `c`'s product for the `j`-th block of rows and half `d` of the columns. -/
def term (d : Bool) (j : Fin 16) (c : Dev nD) : FVec Ideal S512x2048 .f32 := dotV (rows (xs m c) j) (cols (ws m c) d)

/-- The sender multiplies at step `s` the rows that the receiver multiplies at the next. -/
theorem chunk_src (d : Bool) (c : Dev nD) (s : ℕ) : chunk d (src d c) s = chunk d c (s + 1) := by
  refine Fin.ext ?_
  cases d
  · show ((src false c).val + (16 - s % 16)) % 16 = (c.val + (16 - (s + 1) % 16)) % 16
    rw [show (src false c).val = (c.val + 15) % 16 by revert c; decide]
    omega
  · show ((src true c).val + s) % 16 = (c.val + (s + 1)) % 16
    rw [show (src true c).val = (c.val + 1) % 16 by revert c; decide]
    omega

theorem chunk_last (d : Bool) (c : Dev nD) : chunk d c 15 = nb d c := by revert d c; decide +kernel

/-- The partial sum of step `s` is the sum of the products of the `s + 1` devices it has passed. -/
theorem partV_sum (d : Bool) (s : ℕ) (c : Dev nD) (i : S512x2048.Idx) :
    partV m d s c i = ∑ n ∈ Finset.range (s + 1), term m d (chunk d c s) ((src d)^[n] c) i := by
  induction s generalizing c with
  | zero => rw [partV_zero, Finset.sum_range_one]; rfl
  | succ s ih =>
    rw [partV_succ, Finset.sum_range_succ', ← chunk_src]
    show partV m d s (src d c) i + prodV m d c (s + 1) i = _
    rw [ih]
    congr 1
    rw [chunk_src]; rfl

theorem round_trip (d : Bool) (c : Dev nD) : Function.Bijective fun n : Fin 16 => (src d)^[n.val] c := by
  revert d c; decide +kernel

/-- The last sum is the sum over all devices. -/
theorem partV_last (d : Bool) (c : Dev nD) (i : S512x2048.Idx) :
    partV m d 15 c i = ∑ c' : Dev nD, term m d (nb d c) c' i := by
  rw [partV_sum, chunk_last, Finset.sum_range]
  exact (round_trip d c).sum_comp fun c' => term m d (nb d c) c' i

/-- Device `c`'s block of `x`; -/
def argX (c : Dev nD) : Vec Ideal S8192x512 .f32 := m ((c : Thread nD τ).loc main_arg0)

/-- its block of `w`. -/
def argW (c : Dev nD) : Vec Ideal S512x4096 .f32 := m ((c : Thread nD τ).loc main_arg1)

theorem index_x (t : Fin grid0.N) (a : Fin win0_0.shape.rank) : win0_0.index t a = 0 := by revert t a; decide
theorem index_w (t : Fin grid0.N) (a : Fin win0_1.shape.rank) : win0_1.index t a = 0 := by revert t a; decide

/-- The kernel's copy of a block is the block. -/
theorem xs_eq (c : Dev nD) : xs m c = argX m c := by
  funext y
  refine congrArg (argX m c) (funext fun a => Fin.ext ?_)
  exact Pipeline.Window.rect_emb_val_of_index_zero win0_0 (0 : Fin 1) a (index_x _ a) y

theorem ws_eq (c : Dev nD) : ws m c = argW m c := by
  funext y
  refine congrArg (argW m c) (funext fun a => Fin.ext ?_)
  exact Pipeline.Window.rect_emb_val_of_index_zero win0_1 (0 : Fin 1) a (index_w _ a) y

/-- A product's entry is the sum of the 512 products. -/
theorem dotV_apply (a : Vec Ideal S512x512 .f32) (b : Vec Ideal S512x2048 .f32) (r : Fin 512) (q : Fin 2048) :
    dotV a b (ix2 r q) = ∑ k : Fin 512, a (ix2 r k) * b (ix2 k q) := by
  unfold dotV
  rw [shapeCast_self, shapeCast_self]
  refine (Ideal.matmul_plain_apply ..).trans ?_
  show Ideal.ofBits .f32 0x00000000#32 + _ = _
  rw [Ideal.ofBits_zero_f32, zero_add]

/-- The half of the columns that column `q` is in. -/
def half (q : Fin 4096) : Bool := decide (2048 ≤ q.val)

/-- The column within its half. -/
def inHalf (q : Fin 4096) : Fin 2048 := ⟨q.val % 2048, Nat.mod_lt _ (by decide)⟩

def blockOf (r : Fin 8192) : Fin 16 := ⟨r.val / 512, Nat.div_lt_of_lt_mul r.isLt⟩
def inBlock (r : Fin 8192) : Fin 512 := ⟨r.val % 512, Nat.mod_lt _ (by decide)⟩

theorem rows_apply (X : Vec Ideal S8192x512 .f32) (r : Fin 8192) (k : Fin 512) :
    rows X (blockOf r) (ix2 (inBlock r) k) = X (ix2 r k) := by
  refine congrArg X (funext fun a => Fin.ext ?_)
  fin_cases a
  · show 512 * (r.val / 512) + 1 * (r.val % 512) = r.val
    omega
  · show 0 + 1 * k.val = k.val
    omega

theorem cols_apply (W : Vec Ideal S512x4096 .f32) (q : Fin 4096) (k : Fin 512) :
    cols W (half q) (ix2 k (inHalf q)) = W (ix2 k q) := by
  refine congrArg W (funext fun a => Fin.ext ?_)
  fin_cases a
  · show 0 + 1 * k.val = k.val
    omega
  · show lo (half q) + 1 * (q.val % 2048) = q.val
    unfold half
    by_cases h : 2048 ≤ q.val
    · rw [decide_eq_true h]; show 2048 + _ = _; omega
    · rw [decide_eq_false h]; show 0 + _ = _; omega

/-- An entry of the sum over all devices. -/
theorem partV_apply (r : Fin 8192) (q : Fin 4096) :
    partV m (half q) 15 (src (half q) (blockOf r)) (ix2 (inBlock r) (inHalf q))
      = ∑ c : Dev nD, ∑ k : Fin 512, (argX m c (ix2 r k) * argW m c (ix2 k q) : EReal) := by
  rw [partV_last, nb_src]
  refine Finset.sum_congr rfl fun c _ => ?_
  unfold term
  rw [dotV_apply, xs_eq, ws_eq]
  exact Finset.sum_congr rfl fun k _ => by rw [rows_apply, cols_apply]

/-- The product of the whole arrays. -/
def whole (X : Vec Ideal ⟨2, ![8192, 8192]⟩ .f32) (W : Vec Ideal ⟨2, ![8192, 4096]⟩ .f32) (r : Fin 8192) (q : Fin 4096) : EReal :=
  ∑ k : Fin 8192, (X (ix2 r k) * W (ix2 k q) : EReal)

/-- The devices' products sum to the product of the whole arrays. -/
theorem blocks_sum (X : Vec Ideal ⟨2, ![8192, 8192]⟩ .f32) (W : Vec Ideal ⟨2, ![8192, 4096]⟩ .f32)
    (hX : ∀ c, argX m c = Layout.block ⟨2, ![8192, 512]⟩ ⟨2, ![8192, 8192]⟩ 1 16 c X)
    (hW : ∀ c, argW m c = Layout.block ⟨2, ![512, 4096]⟩ ⟨2, ![8192, 4096]⟩ 0 16 c W) (r : Fin 8192) (q : Fin 4096) :
    (∑ c : Dev nD, ∑ k : Fin 512, (argX m c (ix2 r k) * argW m c (ix2 k q) : EReal)) = whole X W r q := by
  unfold whole
  rw [← Equiv.sum_comp (finProdFinEquiv (m := 16) (n := 512)), Fintype.sum_prod_type]
  refine Finset.sum_congr rfl fun c _ => Finset.sum_congr rfl fun k _ => ?_
  rw [hX, hW]
  refine congrArg₂ (fun a b : EReal => a * b) (congrArg X (funext fun a => Fin.ext ?_)) (congrArg W (funext fun a => Fin.ext ?_))
  · fin_cases a
    · rfl
    · show c.val * 512 + k.val = k.val + 512 * c.val
      omega
  · fin_cases a
    · show c.val * 512 + k.val = k.val + 512 * c.val
      omega
    · rfl

end Cert.Proof

end
-- ==== Proof.Equation.lean ====
/-
  The equation: the entry the kernel writes is the reference's. Both are one function of the whole arrays' product; the
  clip of the clipped reference does nothing where every device's product is at most 60 / 16 in size.
-/
module

public import proofs.«01_k».proof.Proof.Product
public import Idealize.ShloMosaic.Lib.IdealHost

@[expose] public section

noncomputable section

namespace Cert.Proof

open Cert.KernelIdeal Cert.KernelIdeal.Gen
open Idealize.ShloMosaic Idealize.ShloMosaic.TcCoe Idealize.ShloMosaic.ValueIdx

/-! ### The activation -/

/-- `y / (1 + exp (-y))` over the extended reals. -/
def swish (y : EReal) : EReal := Ideal.div y (1 + Ideal.exp (-y))

theorem exp_nonneg (y : EReal) : 0 ≤ Ideal.exp y := by
  induction y using EReal.rec with
  | bot => exact le_refl _
  | coe x => exact EReal.coe_nonneg.mpr (Real.exp_pos x).le
  | top => exact le_top

/-- The denominator is never zero. -/
theorem denom_ne (y : EReal) : 1 + Ideal.exp y ≠ 0 :=
  ((zero_lt_one (α := EReal)).trans_le (le_add_of_nonneg_right (exp_nonneg y))).ne'

/-- Multiplying by the quotient is dividing. -/
theorem mul_div_one (y : EReal) : y * Ideal.div 1 (1 + Ideal.exp (0 - y)) = swish y := by
  unfold swish Ideal.div
  rw [zero_sub, if_neg (denom_ne _), if_neg (denom_ne _), one_mul]

/-- An entry of the kernel's activation. -/
theorem siluV_apply (y : FVec Ideal S512x2048 .f32) (i : S512x2048.Idx) : siluV y i = swish (y i) := by
  show (y i : EReal) * Ideal.div (Ideal.ofBits .f32 0x3F800000#32)
    (Ideal.ofBits .f32 0x3F800000#32 + Ideal.exp (Ideal.ofBits .f32 0x00000000#32 - y i)) = _
  rw [Ideal.ofBits_one_f32, Ideal.ofBits_zero_f32, mul_div_one]

/-- Inside the bounds the clip is the identity. -/
theorem clip_id {y : EReal} (lo : ((-60 : ℝ) : EReal) ≤ y) (hi : y ≤ ((60 : ℝ) : EReal)) :
    min ((60 : ℝ) : EReal) (max ((-60 : ℝ) : EReal) y) = y := by
  rw [max_eq_right lo, min_eq_right hi]

theorem bits_60 : Ideal.ofBits .f32 0x42700000#32 = ((60 : ℝ) : EReal) := by
  simp [Ideal.ofBits, Ideal.ieee, -EReal.coe_mul]; norm_num

theorem bits_neg_60 : Ideal.ofBits .f32 0xC2700000#32 = ((-60 : ℝ) : EReal) := by
  simp [Ideal.ofBits, Ideal.ieee, -EReal.coe_mul, -EReal.coe_neg]; norm_num

theorem bits_bound : Ideal.ofBits .f32 0x40700000#32 = ((15 / 4 : ℝ) : EReal) := by
  simp [Ideal.ofBits, Ideal.ieee, -EReal.coe_mul]; norm_num

/-! ### What the kernel's result holds -/

variable (m : (ℓ : Loc nD τ sig) → Buf (Elt Ideal) ℓ)

/-- An entry of the result is the activation of the sum over all devices. -/
theorem outV_apply (r : Fin 8192) (q : Fin 4096) :
    outV m (ix2 r q) = swish (∑ c : Dev nD, ∑ k : Fin 512, (argX m c (ix2 r k) * argW m c (ix2 k q) : EReal)) := by
  have e : (fun | ⟨0, _⟩ => ⟨r.val % 512, Nat.mod_lt _ (by decide)⟩ | ⟨1, _⟩ => ⟨q.val % 2048, Nat.mod_lt _ (by decide)⟩ : S512x2048.Idx)
      = ix2 (inBlock r) (inHalf q) := eq_ix2 _
  show ofSlot (ownV m (half q) (src (half q) (blockOf r))) _ = _
  rw [ownV_eq, siluV_apply]
  exact congrArg swish ((congrArg _ e).trans (partV_apply m r q))

/-! ### What the references compute -/

/-- An entry of the host's product is the sum of the products. -/
theorem hostDot_apply {M K N : ℕ} (X : FVec Ideal ⟨2, ![M, K]⟩ .f32) (W : FVec Ideal ⟨2, ![K, N]⟩ .f32) (r : Fin M) (q : Fin N) :
    (Host.dotGeneral (DotDims.plain M K N) none X W : FVec Ideal ⟨2, ![M, N]⟩ .f32) (ix2 r q)
      = ∑ k : Fin K, (X (ix2 r k) * W (ix2 k q) : EReal) := by
  have h := Ideal.matmul_plain_apply none X W (fun _ => (0 : EReal)) r q
  rw [Ideal.matmul_apply, zero_add, zero_add] at h
  exact (Ideal.dotGeneral_apply ..).trans h

/-- Sixteen bounded terms. -/
theorem sum_bound : (∑ _c : Dev nD, ((15 / 4 : ℝ) : EReal)) = ((60 : ℝ) : EReal) := by
  rw [Finset.sum_const, ← EReal.coe_nsmul]
  congr 1
  simp
  norm_num

theorem sum_bound_neg : (∑ _c : Dev nD, ((-(15 / 4) : ℝ) : EReal)) = ((-60 : ℝ) : EReal) := by
  rw [Finset.sum_const, ← EReal.coe_nsmul]
  congr 1
  simp
  norm_num

/-- A sum over the devices lies where the clip does nothing if each term is at most 60 / 16 in size. -/
theorem sum_in_range (f : Dev nD → EReal) (h : ∀ c, max (f c) (-f c) ≤ ((15 / 4 : ℝ) : EReal)) :
    ((-60 : ℝ) : EReal) ≤ ∑ c, f c ∧ ∑ c, f c ≤ ((60 : ℝ) : EReal) := by
  constructor
  · rw [← sum_bound_neg]
    refine Finset.sum_le_sum fun c _ => ?_
    rw [EReal.coe_neg]
    exact EReal.neg_le_of_neg_le ((le_max_right _ _).trans (h c))
  · rw [← sum_bound]
    exact Finset.sum_le_sum fun c _ => (le_max_left _ _).trans (h c)

end Cert.Proof

end
-- ==== Proof.Algebra.lean ====
/-
  The value claims, from the run of the kernel, the runs of the two references and the equation of their entries.
-/
module

public import proofs.«01_k».proof.Proof.Equation
public import proofs.«01_k».proof.Proof.Frames
public import proofs.«01_k».proof.Proof.Gen.ReferenceIdeal.Run
public import proofs.«01_k».proof.Proof.Gen.UnclippedIdeal.Run
public import proofs.«01_k».proof.Proof.Gen.Pre_bounded_KernelIdeal
public import proofs.«01_k».proof.Proof.Gen.Pre_bounded_ReferenceIdeal

@[expose] public section

noncomputable section

namespace Cert.Proof

open Cert.KernelIdeal Cert.KernelIdeal.Gen
open Idealize.ShloMosaic Idealize.ShloMosaic.TcCoe Idealize.ShloMosaic.ValueIdx Idealize.SL.Sem

/-- The whole `x` and the whole `w`. -/
abbrev WholeX := FVec Ideal ⟨2, ![8192, 8192]⟩ .f32
abbrev WholeW := FVec Ideal ⟨2, ![8192, 4096]⟩ .f32

/-- The unclipped reference's result: an entry is the activation of the product's entry. -/
theorem unclipped_apply (X : WholeX) (W : WholeW) (r : Fin 8192) (q : Fin 4096) :
    (Host.divf (Host.dotGeneral Cert.UnclippedIdeal.dot_S8192x8192_S8192x4096_S8192x4096_1_0_0_1_n_n none X W)
      (addf (broadcastInDim Cert.UnclippedIdeal.S8192x4096 ![] Cert.UnclippedIdeal.Facts₀.bcast_S_S8192x4096 (constant Cert.UnclippedIdeal.S_ .f32 0x3F800000#32))
        (Host.exp (Host.negf (Host.dotGeneral Cert.UnclippedIdeal.dot_S8192x8192_S8192x4096_S8192x4096_1_0_0_1_n_n none X W)))) : FVec Ideal ⟨2, ![8192, 4096]⟩ .f32) (ix2 r q)
      = swish (whole X W r q) := by
  have h : (Host.dotGeneral Cert.UnclippedIdeal.dot_S8192x8192_S8192x4096_S8192x4096_1_0_0_1_n_n none X W : FVec Ideal ⟨2, ![8192, 4096]⟩ .f32) (ix2 r q)
      = whole X W r q := hostDot_apply X W r q
  generalize Host.dotGeneral Cert.UnclippedIdeal.dot_S8192x8192_S8192x4096_S8192x4096_1_0_0_1_n_n none X W = y at h ⊢
  rw [← h]
  show Ideal.div (y (ix2 r q)) (Ideal.ofBits .f32 0x3F800000#32 + Ideal.exp (-(y (ix2 r q) : EReal))) = _
  rw [Ideal.ofBits_one_f32]
  rfl

/-- The clipped reference's result where the product lies within the clip's bounds. -/
theorem clipped_apply (X : WholeX) (W : WholeW) (r : Fin 8192) (q : Fin 4096)
    (hy : ((-60 : ℝ) : EReal) ≤ whole X W r q ∧ whole X W r q ≤ ((60 : ℝ) : EReal)) :
    (Host.divf (Host.dotGeneral Cert.ReferenceIdeal.dot_S8192x8192_S8192x4096_S8192x4096_1_0_0_1_n_n none X W)
      (addf (broadcastInDim Cert.ReferenceIdeal.S8192x4096 ![] Cert.ReferenceIdeal.Facts₀.bcast_S_S8192x4096 (constant Cert.ReferenceIdeal.S_ .f32 0x3F800000#32))
        (Host.exp (Host.negf (minimumf
          (broadcastInDim Cert.ReferenceIdeal.S8192x4096 ![] Cert.ReferenceIdeal.Facts₀.bcast_S_S8192x4096 (id (constant Cert.ReferenceIdeal.S_ .f32 0x42700000#32)))
          (maximumf
            (broadcastInDim Cert.ReferenceIdeal.S8192x4096 ![] Cert.ReferenceIdeal.Facts₀.bcast_S_S8192x4096 (id (constant Cert.ReferenceIdeal.S_ .f32 0xC2700000#32)))
            (Host.dotGeneral Cert.ReferenceIdeal.dot_S8192x8192_S8192x4096_S8192x4096_1_0_0_1_n_n none X W)))))) : FVec Ideal ⟨2, ![8192, 4096]⟩ .f32) (ix2 r q)
      = swish (whole X W r q) := by
  have h : (Host.dotGeneral Cert.ReferenceIdeal.dot_S8192x8192_S8192x4096_S8192x4096_1_0_0_1_n_n none X W : FVec Ideal ⟨2, ![8192, 4096]⟩ .f32) (ix2 r q)
      = whole X W r q := hostDot_apply X W r q
  generalize Host.dotGeneral Cert.ReferenceIdeal.dot_S8192x8192_S8192x4096_S8192x4096_1_0_0_1_n_n none X W = y at h ⊢
  rw [← h] at hy ⊢
  show Ideal.div (y (ix2 r q)) (Ideal.ofBits .f32 0x3F800000#32
    + Ideal.exp (-(min (Ideal.ofBits .f32 0x42700000#32) (max (Ideal.ofBits .f32 0xC2700000#32) (y (ix2 r q))) : EReal))) = _
  rw [Ideal.ofBits_one_f32, bits_60, bits_neg_60, clip_id hy.1 hy.2]
  rfl

variable (m : (ℓ : Loc nD τ sig) → Buf (Elt Ideal) ℓ)

/-- The devices' inputs are the blocks of `X` and `W`. -/
def Blocks (X : WholeX) (W : WholeW) : Prop := ∀ c : Dev nD,
  m ((c : Thread nD τ).loc main_arg0) = Layout.block ⟨2, ![8192, 512]⟩ ⟨2, ![8192, 8192]⟩ 1 16 c X
    ∧ m ((c : Thread nD τ).loc main_arg1) = Layout.block ⟨2, ![512, 4096]⟩ ⟨2, ![8192, 4096]⟩ 0 16 c W

variable {m}

/-- The devices' products sum to the whole product. -/
theorem Blocks.sum {X : WholeX} {W : WholeW} (h : Blocks m X W) (r : Fin 8192) (q : Fin 4096) :
    (∑ c : Dev nD, ∑ k : Fin 512, (argX m c (ix2 r k) * argW m c (ix2 k q) : EReal)) = whole X W r q :=
  blocks_sum m X W (fun c => (h c).1) (fun c => (h c).2) r q

/-- The kernel's result is any array whose entries are the activation of the whole product. -/
theorem result_eq {X : WholeX} {W : WholeW} (h : Blocks m X W) (V : FVec Ideal ⟨2, ![8192, 4096]⟩ .f32)
    (hV : ∀ r q, V (ix2 r q) = swish (whole X W r q)) (c : Dev nD) : outWhole m c = V := by
  funext i
  obtain ⟨r, q, rfl⟩ : ∃ r q, i = ix2 (n0 := 8192) (n1 := 4096) r q := ⟨i 0, i 1, eq_ix2 i⟩
  exact ((outV_apply m r q).trans (congrArg swish (h.sum r q))).trans (hV r q).symm

/-- A comparison that answers one holds. -/
theorem le_of_cmp {a b : EReal} (h : Ideal.cmp .ole a b = 1#1) : a ≤ b := by
  by_contra hn
  have e : Ideal.cmp .ole a b = 0#1 := congrArg BitVec.ofBool (decide_eq_false hn)
  exact absurd (e.symm.trans h) (by decide)

/-- Under the precondition every entry of the whole product lies within the clip's bounds. -/
theorem within {X : WholeX} {W : WholeW} (h : Blocks m X W) (hp : Cert.Pre_KernelIdeal_bounded_KernelIdeal m) (r : Fin 8192) (q : Fin 4096) :
    ((-60 : ℝ) : EReal) ≤ whole X W r q ∧ whole X W r q ≤ ((60 : ℝ) : EReal) := by
  rw [← h.sum r q]
  refine sum_in_range _ fun c => ?_
  rw [← hostDot_apply (argX m c) (argW m c) r q, ← bits_bound]
  exact le_of_cmp (congrFun (hp c) (ix2 r q))

/-- The kernel's runs over the extended reals, the result being any array equal to the one it computes. -/
theorem kernel_run (ρ : Dev nD → PrngReg) (V : FVec Ideal ⟨2, ![8192, 4096]⟩ .f32) (hV : ∀ c, outWhole m c = V) :
    θ_run (defs (F := Ideal)) (onTc (τ := τ) (main (F := Ideal))) ⟨m, fun _ => 0, ρ⟩ fun r => ∀ c : Dev nD,
      r.2.mem ((c : Thread nD τ).loc main_v1) = V
        ∧ r.2.mem ((c : Thread nD τ).loc main_arg0) = m ((c : Thread nD τ).loc main_arg0)
        ∧ r.2.mem ((c : Thread nD τ).loc main_arg1) = m ((c : Thread nD τ).loc main_arg1) :=
  (θ_run _ _ _).mono (fun _ h c => ⟨(h.1 c).1.trans (hV c), (h.1 c).2⟩) (run_main m ρ)

/-- The kernel computes the reference's result where every device's product is at most 60 / 16 in size. -/
theorem algebraic_clipped : Cert.algebraic_KernelIdeal_ReferenceIdeal_pre_bounded_KernelIdeal := fun m ρ m' ρ' hp h =>
  ⟨_, kernel_run ρ _ fun c => result_eq h _ (fun r q => clipped_apply _ _ r q (within h hp r q)) c,
    (θ_run _ _ _).mono (fun _ hr => hr 0) (Cert.ReferenceIdeal.Value.run m' ρ')⟩

/-- The kernel computes the unclipped reference's result for every input. -/
theorem algebraic_unclipped : Cert.algebraic_KernelIdeal_UnclippedIdeal := fun m ρ m' ρ' _ h =>
  ⟨_, kernel_run ρ _ fun c => result_eq h _ (fun r q => unclipped_apply _ _ r q) c,
    (θ_run _ _ _).mono (fun _ hr => hr 0) (Cert.UnclippedIdeal.Value.run m' ρ')⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Frames
public import proofs.«01_k».proof.Proof.Algebra
public import proofs.«01_k».proof.Proof.Gen.ReferenceIdeal.Run
public import proofs.«01_k».proof.Proof.Gen.UnclippedIdeal
public import proofs.«01_k».proof.Proof.Gen.UnclippedIdeal.Run
public import proofs.«01_k».proof.Proof.Gen.Pre_bounded_KernelIdeal
public import proofs.«01_k».proof.Proof.Gen.Pre_bounded_ReferenceIdeal
public import Idealize.ShloMosaic.Adequacy
public import Idealize.ShloMosaic.Init

@[expose] public section

noncomputable section

namespace Cert.Proof

open Idealize.ShloMosaic Idealize.SL.Sem Cert.Kernel

/-- Every claim. -/
theorem claim : Cert.Claim := ⟨Cert.Kernel.Gen.facts, Cert.KernelIdeal.Gen.facts, Cert.ReferenceIdeal.Gen.facts,
  Cert.UnclippedIdeal.Gen.facts, Cert.Pre_bounded_KernelIdeal.Gen.facts, Cert.Pre_bounded_ReferenceIdeal.Gen.facts,
  frame_kernel, frame_ideal, frame_ideal_bounded, frame_reference, frame_reference_bounded, frame_unclipped, trivial,
  algebraic_clipped, algebraic_unclipped⟩

end Cert.Proof

end
